-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  bcast_S_S768x512 : S_.BroadcastsInDim S768x512 (![] : Fin 0 → Fin S768x512.rank)

variable [Facts]

def fn {F : FTy → Type} [FloatOps F] (main_arg0 : FVec F S2x256x768 .bf16) (main_arg1 : FVec F S768x512 .bf16) (main_arg2 : FVec F S768x512 .bf16) (main_arg3 : FVec F S768x512 .bf16) (main_arg4 : FVec F S512x768 .bf16) : IVec S2x256x768 1 × IVec S768x512 1 × IVec S768x512 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S768x512 .f32 := (extf .f32 · bitsLt_bf16_f32) main_arg2
  let main_v9 : FVec F S768x512 .f32 := Host.absf main_v8
  let main_cst_1 : FVec F S_ .f32 := constant S_ .f32 0x7F800000#32
  let main_v10 : FVec F S768x512 .f32 := broadcastInDim S768x512 ![] bcast_S_S768x512 main_cst_1
  let main_v11 : IVec S768x512 1 := cmpf .olt main_v9 main_v10
  (main_v3, main_v7, main_v11)
-- ==== Pre_scores_finite_ReferenceIdeal.lean ====
abbrev S2x256x768 : Shape := ⟨3, ![2, 256, 768]⟩
abbrev S768x2048 : Shape := ⟨2, ![768, 2048]⟩
abbrev S2048x768 : Shape := ⟨2, ![2048, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  bcast_S_S768x2048 : S_.BroadcastsInDim S768x2048 (![] : Fin 0 → Fin S768x2048.rank)

variable [Facts]

def fn {F : FTy → Type} [FloatOps F] (main_arg0 : FVec F S2x256x768 .bf16) (main_arg1 : FVec F S768x2048 .bf16) (main_arg2 : FVec F S768x2048 .bf16) (main_arg3 : FVec F S768x2048 .bf16) (main_arg4 : FVec F S2048x768 .bf16) : IVec S2x256x768 1 × IVec S768x2048 1 × IVec S768x2048 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_v4 : FVec F S768x2048 .f32 := (extf .f32 · bitsLt_bf16_f32) main_arg1
  let main_v5 : FVec F S768x2048 .f32 := Host.absf main_v4
  let main_cst_0 : FVec F S_ .f32 := constant S_ .f32 0x7F800000#32
  let main_v6 : FVec F S768x2048 .f32 := broadcastInDim S768x2048 ![] bcast_S_S768x2048 main_cst_0
  let main_v7 : IVec S768x2048 1 := cmpf .olt main_v5 main_v6
  let main_v8 : FVec F S768x2048 .f32 := (extf .f32 · bitsLt_bf16_f32) main_arg2
  let main_v9 : FVec F S768x2048 .f32 := Host.absf main_v8
  let main_cst_1 : FVec F S_ .f32 := constant S_ .f32 0x7F800000#32
  let main_v10 : FVec F S768x2048 .f32 := broadcastInDim S768x2048 ![] bcast_S_S768x2048 main_cst_1
  let main_v11 : IVec S768x2048 1 := cmpf .olt main_v9 main_v10
  (main_v3, main_v7, main_v11)
-- ==== Kernel.lean ====
abbrev S2x256x768 : Shape := ⟨3, ![2, 256, 768]⟩
abbrev S768x512 : Shape := ⟨2, ![768, 512]⟩
abbrev S512x768 : Shape := ⟨2, ![512, 768]⟩
abbrev S4x2x128x768 : Shape := ⟨4, ![4, 2, 128, 768]⟩
abbrev S8 : Shape := ⟨1, ![8]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S2x128x768 : Shape := ⟨3, ![2, 128, 768]⟩
abbrev S1x2x128x768 : Shape := ⟨4, ![1, 2, 128, 768]⟩
abbrev S_ : Shape := ⟨0, ![]⟩
abbrev S1 : Shape := ⟨1, ![1]⟩
abbrev S1x1x128x768 : Shape := ⟨4, ![1, 1, 128, 768]⟩
abbrev S128x768 : Shape := ⟨2, ![128, 768]⟩
abbrev S1x128x768 : Shape := ⟨3, ![1, 128, 768]⟩

abbrev nBuf : Space → Nat
  | .hbm => 6
  | .vmem => 8
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S768x512, .bf16⟩
  | .hbm, ⟨3, _⟩ => ⟨S768x512, .bf16⟩
  | .hbm, ⟨4, _⟩ => ⟨S512x768, .bf16⟩
  | .hbm, ⟨5, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S768x512, .bf16⟩
  | .local _ .vmem, ⟨4, _⟩ => ⟨S768x512, .bf16⟩
  | .local _ .vmem, ⟨5, _⟩ => ⟨S2x256x768, .f32⟩
  | .local _ .vmem, ⟨6, _⟩ => ⟨S4x2x128x768, .bf16⟩
  | .local _ .vmem, ⟨7, _⟩ => ⟨S4x2x128x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_44 : BitVec 32 := 1#32
  let v127 : BitVec 32 := Scalar.muli v3 c1_i32_44
  let v128 : BitVec 32 := Scalar.addi c0_i32 v127
  v128.toNat
def k0_dev2 (d0 : Dev nD) : Nat :=
  let c0_i32_47 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_46 : BitVec 32 := 1#32
  let v129 : BitVec 32 := Scalar.muli v4 c1_i32_46
  let v130 : BitVec 32 := Scalar.addi c0_i32_47 v129
  v130.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_54 : BitVec 32 := 1#32
  let v131 : BitVec 32 := Scalar.muli v3 c1_i32_54
  let v132 : BitVec 32 := Scalar.addi c0_i32_55 v131
  v132.toNat
def k0_dev4 (d0 : Dev nD) : Nat :=
  let c0_i32_67 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_66 : BitVec 32 := 1#32
  let v141 : BitVec 32 := Scalar.muli v4 c1_i32_66
  let v142 : BitVec 32 := Scalar.addi c0_i32_67 v141
  v142.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_113 : BitVec 32 := 1#32
  let v264 : BitVec 32 := Scalar.muli v3 c1_i32_113
  let v265 : BitVec 32 := Scalar.addi c0_i32_114 v264
  v265.toNat
def k0_dev6 (d0 : Dev nD) : Nat :=
  let c0_i32_126 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_125 : BitVec 32 := 1#32
  let v274 : BitVec 32 := Scalar.muli v4 c1_i32_125
  let v275 : BitVec 32 := Scalar.addi c0_i32_126 v274
  v275.toNat
def k0_dev7 (d0 : Dev nD) : Nat :=
  let c0_i32_172 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_171 : BitVec 32 := 1#32
  let v306 : BitVec 32 := Scalar.muli v4 c1_i32_171
  let v307 : BitVec 32 := Scalar.addi c0_i32_172 v306
  v307.toNat
def k0_dev8 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_217 : BitVec 32 := 1#32
  let v338 : BitVec 32 := Scalar.muli v3 c1_i32_217
  let v339 : BitVec 32 := Scalar.addi c0_i32_218 v338
  v339.toNat
def k0_dev9 (d0 : Dev nD) : Nat :=
  let c0_i32_264 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_263 : BitVec 32 := 1#32
  let v370 : BitVec 32 := Scalar.muli v4 c1_i32_263
  let v371 : BitVec 32 := Scalar.addi c0_i32_264 v370
  v371.toNat
def k0_dev10 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_309 : BitVec 32 := 1#32
  let v402 : BitVec 32 := Scalar.muli v3 c1_i32_309
  let v403 : BitVec 32 := Scalar.addi c0_i32_310 v402
  v403.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x2048 : Shape := ⟨2, ![768, 2048]⟩
abbrev S2048x768 : Shape := ⟨2, ![2048, 768]⟩
abbrev S2x256x2048 : Shape := ⟨3, ![2, 256, 2048]⟩
abbrev S2x256x32x64 : Shape := ⟨4, ![2, 256, 32, 64]⟩
abbrev S_ : Shape := ⟨0, ![]⟩
abbrev S2x32x256x1 : Shape := ⟨4, ![2, 32, 256, 1]⟩
abbrev S2x32x256x256 : Shape := ⟨4, ![2, 32, 256, 256]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 51
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x2048, .bf16⟩
  | .hbm, ⟨2, _⟩ => ⟨S768x2048, .bf16⟩
  | .hbm, ⟨3, _⟩ => ⟨S768x2048, .bf16⟩
  | .hbm, ⟨4, _⟩ => ⟨S2048x768, .bf16⟩
  | .hbm, ⟨5, _⟩ => ⟨S2x256x768, .f32⟩
  | .hbm, ⟨6, _⟩ => ⟨S768x2048, .f32⟩
  | .hbm, ⟨7, _⟩ => ⟨S768x2048, .f32⟩
  | .hbm, ⟨8, _⟩ => ⟨S768x2048, .f32⟩
  | .hbm, ⟨9, _⟩ => ⟨S2048x768, .f32⟩
  | .hbm, ⟨10, _⟩ => ⟨S2x256x2048, .f32⟩
  | .hbm, ⟨11, _⟩ => ⟨S2x256x32x64, .f32⟩
  | .hbm, ⟨12, _⟩ => ⟨S2x256x2048, .f32⟩
  | .hbm, ⟨13, _⟩ => ⟨S2x256x32x64, .f32⟩
  | .hbm, ⟨14, _⟩ => ⟨S2x256x2048, .f32⟩
  | .hbm, ⟨15, _⟩ => ⟨S2x256x32x64, .f32⟩
  | .hbm, ⟨16, _⟩ => ⟨S_, .f32⟩
  | .hbm, ⟨17, _⟩ => ⟨S2x256x32x64, .f32⟩
  | .hbm, ⟨18, _⟩ => ⟨S_, .f32⟩
  | .hbm, ⟨19, _⟩ => ⟨S2x32x256x1, .f32⟩
  | .hbm, ⟨20, _⟩ => ⟨S_, .f32⟩
  | .hbm, ⟨21, _⟩ => ⟨S2x32x256x1, .f32⟩
  | .hbm, ⟨22, _⟩ => ⟨S2x32x256x256, .f32⟩
  | .hbm, ⟨23, _⟩ => ⟨S_, .f32⟩
  | .hbm, ⟨24, _⟩ => ⟨S2x32x256x256, .f32⟩
  | .hbm, ⟨25, _⟩ => ⟨S2x32x256x256, .f32⟩
  | .hbm, ⟨26, _⟩ => ⟨S_, .f32⟩
  | .hbm, ⟨27, _⟩ => ⟨S2x32x256, .f32⟩
  | .hbm, ⟨28, _⟩ => ⟨S2x32x256x1, .f32⟩
  | .hbm, ⟨29, _⟩ => ⟨S2x32x256x1, .f32⟩
  | .hbm, ⟨30, _⟩ => ⟨S2x32x256x1, .f32⟩
  | .hbm, ⟨31, _⟩ => ⟨S2x32x256x1, .f32⟩
  | .hbm, ⟨32, _⟩ => ⟨S2x32x256x256, .f32⟩
  | .hbm, ⟨33, _⟩ => ⟨S2x32x256x256, .f32⟩
  | .hbm, ⟨34, _⟩ => ⟨S2x32x256x256, .f32⟩
  | .hbm, ⟨35, _⟩ => ⟨S2x32x256x1, .f32⟩
  | .hbm, ⟨36, _⟩ => ⟨S_, .f32⟩
  | .hbm, ⟨37, _⟩ => ⟨S2x32x256, .f32⟩
  | .hbm, ⟨38, _⟩ => ⟨S2x32x256x1, .f32⟩
  | .hbm, ⟨39, _⟩ => ⟨S2x32x256x1, .f32⟩
  | .hbm, ⟨40, _⟩ => ⟨S2x256x32x1, .f32⟩
  | .hbm, ⟨41, _⟩ => ⟨S2x256x32x64, .f32⟩
  | .hbm, ⟨42, _⟩ => ⟨S2x256x32x64, .f32⟩
  | .hbm, ⟨43, _⟩ => ⟨S2x32x64x256, .f32⟩
  | .hbm, ⟨44, _⟩ => ⟨S2x256x32x64, .f32⟩
  | .hbm, ⟨45, _⟩ => ⟨S2x256x32x64, .f32⟩
  | .hbm, ⟨46, _⟩ => ⟨S2x256x32x1, .f32⟩
  | .hbm, ⟨47, _⟩ => ⟨S2x256x32x64, .f32⟩
  | .hbm, ⟨48, _⟩ => ⟨S2x256x32x64, .f32⟩
  | .hbm, ⟨49, _⟩ => ⟨S2x256x2048, .f32⟩
  | .hbm, ⟨50, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Slots.lean ====
/-
# The two exchange buffers, cut in pieces

Each device has two exchange buffers (one per batch), arrays [4, 2, 128, 768]: slot 0 its own partial product, slot 1
what arrives in the first round, slot 2 the first round's sum, slot 3 what arrives in the second; the second coordinate
the half of the rows.  A transfer moves one PIECE (slot, half).  This module names the pieces, cuts a buffer in them and
joins them again, and states a load and a store of one piece.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The pieces -/

/-- The exchange buffer of batch 0 (`false`) and of batch 1 (`true`). -/
abbrev comm : Bool → Memref sig .tc .vmem S4x2x128x768 .bf16
  | false => Memref.whole cc0_scratch0
  | true => Memref.whole cc0_scratch1

theorem inb_piece (s : Fin 4) (j : Fin 2) (a : Fin 4) :
    (![s.val, j.val, 0, 0] : Fin 4 → Nat) a + S1x1x128x768.size a ≤ S4x2x128x768.size a := by
  revert s j a; decide

/-- The rectangle of piece (slot, half). -/
abbrev rct (s : Fin 4) (j : Fin 2) : Rect S4x2x128x768 :=
  Rect.unit (s := S4x2x128x768) ![s.val, j.val, 0, 0] S1x1x128x768.size (inb_piece s j)
/-- The rectangle of the whole slot 0. -/
abbrev rct0 : Rect S4x2x128x768 :=
  Rect.unit (s := S4x2x128x768) ![0, 0, 0, 0] S1x2x128x768.size inb_S4x2x128x768_S1x2x128x768_0_0_0_0

/-- Piece (slot, half) of the exchange buffer `b`. -/
abbrev pc (b : Bool) (s : Fin 4) (j : Fin 2) : Memref sig .tc .vmem S128x768 .bf16 :=
  ((comm b).slice (rct s j) (fun _ => rfl)).squeeze S128x768 squeezes_S1x1x128x768_S128x768

theorem set_pc (b : Bool) (s : Fin 4) (j : Fin 2) : (pc b s j).view.set = (comm b).view.setOn (rct s j).set := by
  rw [Memref.set_view_squeeze]
  exact View.set_slice _ _

theorem mem_rct {s : Fin 4} {j : Fin 2} {i : S4x2x128x768.Idx} : i ∈ (rct s j).set ↔ (i 0 : ℕ) = s ∧ (i 1 : ℕ) = j := by
  rw [Rect.mem_set_unit]
  constructor
  · intro h
    have h0 := h 0; have h1 := h 1
    simp at h0 h1
    omega
  · rintro ⟨h0, h1⟩ a
    fin_cases a
    · simp; omega
    · simp; omega
    · have := (i 2).isLt; simpa using this
    · have := (i 3).isLt; simpa using this

theorem mem_rct0 {i : S4x2x128x768.Idx} : i ∈ rct0.set ↔ (i 0 : ℕ) = 0 := by
  rw [Rect.mem_set_unit]
  constructor
  · intro h
    have h0 := h 0
    simp at h0
    omega
  · rintro h0 a
    fin_cases a
    · simp; omega
    · have := (i 1).isLt; simpa using this
    · have := (i 2).isLt; simpa using this
    · have := (i 3).isLt; simpa using this

/-! ## A load and a store of one piece -/

/-- What one piece holds. -/
abbrev PieceC (F : FTy → Type) : Type := Vec F S128x768 .bf16

/-- Device `c` owns the piece and reads `V` through it. -/
abbrev piece (c : Dev nD) (b : Bool) (s : Fin 4) (j : Fin 2) (V : PieceC F) : sProp 𝕄 :=
  owns (Ix := Unit) (Name := ℕ) (U := UU) (Lvl := ℕ) (c : Thread nD τ) (pc b s j) fullShare V

/-- The piece's contents in the shape a load of it gives. -/
abbrev up (V : PieceC F) : Vec F S1x1x128x768 .bf16 := shapeCast S1x1x128x768 V shapeCasts_S128x768_S1x1x128x768
/-- A store's contents in the shape the piece is read in. -/
abbrev down (W : Vec F S1x1x128x768 .bf16) : PieceC F := shapeCast S128x768 W shapeCasts_S1x1x128x768_S128x768

theorem up_down (W : Vec F S1x1x128x768 .bf16) : up (down W) = W := shapeCast_shapeCast _ _ _
theorem down_up (V : PieceC F) : down (up V) = V := shapeCast_shapeCast _ _ _

theorem read_pc (b : Bool) (s : Fin 4) (j : Fin 2) (f : (comm b).view.ty.Contents (Elt F)) :
    (pc b s j).view.read (Elt F) f = down ((comm b).view.readAt (Elt F) (rct s j).toLoadRect f) := rfl

theorem wp_load_piece (c : Dev nD) (b : Bool) (s : Fin 4) (j : Fin 2) (V : PieceC F)
    {hl : (comm b).view.LoadsAt (rct s j).toLoadRect}
    {α : Type} {Q : α → sProp 𝕄} {k : ((rct s j).toLoadRect.shape.Idx → Elt F .bf16) → Prog (TpuEff nD τ sig (Elt F) Λ₀ .tc) α} :
    piece c b s j V
      ⊢ iprop((piece c b s j V -∗ wp frame (wpE (defs₀ (F := F)) 𝒱₀ (c : Thread nD τ) none) Set.univ (k (up V)) Q)
          -∗ wp frame (wpE (defs₀ (F := F)) 𝒱₀ (c : Thread nD τ) none) Set.univ (.op (.load (comm b) (rct s j).toLoadRect hl) k) Q) := by
  unfold piece owns
  iintro ⟨%f, %hf, H⟩ Hk
  iapply (wp_load 𝒱₀ (c : Thread nD τ) none Set.univ (m := comm b) (r := (rct s j).toLoadRect) (S := (pc b s j).view.set) (f := f)
    (by rw [set_pc])) $$ H
  iintro H
  rw [show (comm b).view.readAt (Elt F) (rct s j).toLoadRect f = up V from by rw [← hf, read_pc, up_down]]
  iapply Hk
  iexists f
  isplitr
  · ipureintro; exact hf
  iexact H

theorem access_set (b : Bool) (s : Fin 4) (j : Fin 2) :
    ((comm b).access (rct s j)).setOn Finset.univ ⊆ (pc b s j).view.set := by
  rw [set_pc]; exact (View.set_slice _ _).subset

/-- A store over a piece held at any contents. -/
theorem wp_store_piece (c : Dev nD) (b : Bool) (s : Fin 4) (j : Fin 2) (W : Vec F S1x1x128x768 .bf16)
    {hx : ((comm b).access (rct s j)).Stores Finset.univ}
    {hm : (Finset.univ : Finset (rct s j).shape.Idx) = Finset.univ ∨ ∀ a, (rct s j).stride a = 1}
    {α : Type} {Q : α → sProp 𝕄} {k : PUnit → Prog (TpuEff nD τ sig (Elt F) Λ₀ .tc) α} :
    iprop(∃ V, piece c b s j V)
      ⊢ iprop((piece c b s j (down W) -∗ wp frame (wpE (defs₀ (F := F)) 𝒱₀ (c : Thread nD τ) none) Set.univ (k ⟨⟩) Q)
          -∗ wp frame (wpE (defs₀ (F := F)) 𝒱₀ (c : Thread nD τ) none) Set.univ (.op (.store (comm b) (rct s j) W Finset.univ hx hm) k) Q) := by
  unfold piece owns
  iintro ⟨%V, %f, %hf, H⟩ Hk
  iapply (wp_store 𝒱₀ (c : Thread nD τ) none Set.univ (m := comm b) (r := rct s j) (w := W) (Mk := Finset.univ) (S := (pc b s j).view.set) (f := f)
    (access_set b s j)) $$ H
  iintro H
  iapply Hk
  iexists _
  isplitr
  · ipureintro
    rw [read_pc, View.readAt_rect]
    exact congrArg down (View.read_write_univ (v := (comm b).view.slice (rct s j)) f W)
  iexact H

/-! ## Slot 0 whole -/

/-- Slot 0 of the exchange buffer `b`, at any contents. -/
def slot0 (c : Dev nD) (b : Bool) : sProp 𝕄 :=
  iprop(∃ f, (comm b).view.loc (c : Thread nD τ) ↦[(comm b).view.setOn rct0.set]{fullShare} f)

/-- Half `j` of what one store of the whole slot 0 writes. -/
def half (W : Vec F S1x2x128x768 .bf16) (j : Fin 2) : PieceC F :=
  down fun i => W fun
    | ⟨0, _⟩ => ⟨0, Nat.one_pos⟩
    | ⟨1, _⟩ => j
    | ⟨2, _⟩ => i 2
    | ⟨3, _⟩ => i 3

theorem rct0_set : rct0.set = (rct 0 0).set ∪ (rct 0 1).set := by
  ext i
  rw [Finset.mem_union, mem_rct, mem_rct, mem_rct0]
  have h1 : (i 1 : ℕ) < 2 := (i 1).isLt
  show (i 0 : ℕ) = 0 ↔ ((i 0 : ℕ) = 0 ∧ (i 1 : ℕ) = 0) ∨ ((i 0 : ℕ) = 0 ∧ (i 1 : ℕ) = 1)
  omega

theorem setOn_slot0 (b : Bool) : (comm b).view.setOn rct0.set = (pc b 0 0).view.set ∪ (pc b 0 1).view.set := by
  rw [set_pc, set_pc, rct0_set]
  exact Finset.map_union _ _

theorem disj_pc (b : Bool) {s s' : Fin 4} {j j' : Fin 2} (h : (s, j) ≠ (s', j')) : Disjoint (pc b s j).view.set (pc b s' j').view.set := by
  rw [set_pc, set_pc]
  unfold View.setOn
  rw [Finset.disjoint_map, Finset.disjoint_left]
  intro i hi hi'
  rw [mem_rct] at hi hi'
  exact h (Prod.ext (Fin.ext (hi.1.symm.trans hi'.1)) (Fin.ext (hi.2.symm.trans hi'.2)))

theorem wp_load_slot0 (c : Dev nD) (b : Bool) {hl : (comm b).view.LoadsAt rct0.toLoadRect}
    {α : Type} {Q : α → sProp 𝕄} {k : (rct0.toLoadRect.shape.Idx → Elt F .bf16) → Prog (TpuEff nD τ sig (Elt F) Λ₀ .tc) α} :
    slot0 (F := F) c b
      ⊢ iprop((∀ w, slot0 c b -∗ wp frame (wpE (defs₀ (F := F)) 𝒱₀ (c : Thread nD τ) none) Set.univ (k w) Q)
          -∗ wp frame (wpE (defs₀ (F := F)) 𝒱₀ (c : Thread nD τ) none) Set.univ (.op (.load (comm b) rct0.toLoadRect hl) k) Q) := by
  unfold slot0
  iintro ⟨%f, H⟩ Hk
  iapply (wp_load 𝒱₀ (c : Thread nD τ) none Set.univ (m := comm b) (r := rct0.toLoadRect) (S := (comm b).view.setOn rct0.set) (f := f)
    (Finset.Subset.refl _)) $$ H
  iintro H
  iapply Hk
  iexists f
  iexact H

theorem read_half (b : Bool) (j : Fin 2) (f : (comm b).view.ty.Contents (Elt F)) (W : Vec F S1x2x128x768 .bf16) :
    (pc b 0 j).view.read (Elt F) (((comm b).access rct0).write (Elt F) f W Finset.univ) = half W j := by
  rw [read_pc]
  unfold half
  refine congrArg down (funext fun i => ?_)
  rw [View.readAt_apply]
  refine Eq.trans (congrArg _ ?_) (View.read_slice_write_emb (v := (comm b).view) rct0 f W (M := Finset.univ) (Finset.mem_univ _))
  funext a
  apply Fin.ext
  have h0 : (i 0 : ℕ) < 1 := (i 0).isLt
  have h1 : (i 1 : ℕ) < 1 := (i 1).isLt
  fin_cases a
  · show 0 + 1 * (i 0 : ℕ) = 0 + 1 * 0
    omega
  · show (j : ℕ) + 1 * (i 1 : ℕ) = 0 + 1 * (j : ℕ)
    omega
  · rfl
  · rfl

/-- The store of the whole slot 0 gives its two pieces. -/
theorem wp_store_slot0 (c : Dev nD) (b : Bool) (W : Vec F S1x2x128x768 .bf16)
    {hx : ((comm b).access rct0).Stores Finset.univ}
    {hm : (Finset.univ : Finset rct0.shape.Idx) = Finset.univ ∨ ∀ a, rct0.stride a = 1}
    {α : Type} {Q : α → sProp 𝕄} {k : PUnit → Prog (TpuEff nD τ sig (Elt F) Λ₀ .tc) α} :
    slot0 (F := F) c b
      ⊢ iprop((iprop(piece c b 0 0 (half W 0) ∗ piece c b 0 1 (half W 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.store (comm b) rct0 W Finset.univ hx hm) k) Q) := by
  unfold slot0 piece owns
  iintro ⟨%f, H⟩ Hk
  iapply (wp_store 𝒱₀ (c : Thread nD τ) none Set.univ (m := comm b) (r := rct0) (w := W) (Mk := Finset.univ) (S := (comm b).view.setOn rct0.set) (f := f)
    (View.set_slice _ _).subset) $$ H
  iintro H
  iapply Hk
  rw [setOn_slot0]
  ihave H' := (pointsTo_union (disj_pc b (by decide))).1 $$ H
  icases H' with ⟨H0, H1⟩
  isplitl [H0]
  · iexists _
    isplitr
    · ipureintro; exact read_half b 0 f W
    iexact H0
  · iexists _
    isplitr
    · ipureintro; exact read_half b 1 f W
    iexact H1

/-! ## The whole buffer and its pieces -/

theorem cover_pc (b : Bool) (x : (comm b).view.ty.Idx) : ∃ p : Fin 4 × Fin 2, x ∈ (pc b p.1 p.2).view.set := by
  have h : ∀ i : S4x2x128x768.Idx, ∃ p : Fin 4 × Fin 2, i ∈ (rct p.1 p.2).set := fun i => ⟨(i 0, i 1), mem_rct.mpr ⟨rfl, rfl⟩⟩
  have hs : (comm b).view.set = Finset.univ := by cases b <;> exact View.set_whole _
  have hx : x ∈ (comm b).view.set := hs ▸ Finset.mem_univ x
  obtain ⟨i, -, rfl⟩ := Finset.mem_map.mp hx
  obtain ⟨p, hp⟩ := h i
  refine ⟨p, ?_⟩
  rw [set_pc]
  exact (View.mem_setOn _).mpr hp

/-- The buffer `b` of device `c`, whole, at contents `f`. -/
abbrev wholePts (c : Dev nD) (b : Bool) (f : Buf (Elt F) ((comm b).view.loc (c : Thread nD τ))) : sProp 𝕄 :=
  (comm b).view.loc (c : Thread nD τ) ↦{fullShare} f

theorem fin42_sep (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

/-- The pieces' element sets, as sets of the buffer's elements. -/
abbrev pcSet (c : Dev nD) (b : Bool) (p : Fin 4 × Fin 2) : Finset (Idx ((comm b).view.loc (c : Thread nD τ))) :=
  (pc b p.1 p.2).view.set

theorem univ_pcSet (c : Dev nD) (b : Bool) : Finset.univ.biUnion (pcSet c b) = Finset.univ := by
  ext x
  constructor
  · exact fun _ => Finset.mem_univ _
  · intro _
    obtain ⟨p, hp⟩ := cover_pc b x
    exact Finset.mem_biUnion.mpr ⟨p, Finset.mem_univ _, hp⟩

theorem whole_pieces (c : Dev nD) (b : Bool) (f : Buf (Elt F) ((comm b).view.loc (c : Thread nD τ))) :
    wholePts c b f
      = bigSep Finset.univ fun p : Fin 4 × Fin 2 => ((comm b).view.loc (c : Thread nD τ) ↦[pcSet c b p]{fullShare} f : sProp 𝕄) := by
  rw [← pointsTo_biUnion Finset.univ (pcSet c b) (fun p _ q _ h => disj_pc b h), univ_pcSet]

/-- Cut at launch: the whole slot 0 and the six pieces of the others. -/
theorem cut (c : Dev nD) (b : Bool) :
    iprop(∃ f, wholePts (F := F) c b f)
      ⊢ iprop(slot0 c b ∗ (∃ V, piece c b 1 0 V) ∗ (∃ V, piece c b 1 1 V) ∗ (∃ V, piece c b 2 0 V) ∗ (∃ V, piece c b 2 1 V)
          ∗ (∃ V, piece c b 3 0 V) ∗ (∃ V, piece c b 3 1 V)) := by
  iintro ⟨%f, H⟩
  ihave H' := (Entails.of_eq ((whole_pieces c b f).trans (fin42_sep _))) $$ H
  icases H' with ⟨H00, H01, H10, H11, H20, H21, H30, H31⟩
  isplitl [H00 H01]
  · unfold slot0
    iexists f
    rw [setOn_slot0]
    iapply (pointsTo_union (disj_pc b (by decide))).2
    isplitl [H00] <;> iassumption
  unfold piece owns
  isplitl [H10]
  · iexists _; iexists f; isplitr; · (ipureintro; rfl)
    iexact H10
  isplitl [H11]
  · iexists _; iexists f; isplitr; · (ipureintro; rfl)
    iexact H11
  isplitl [H20]
  · iexists _; iexists f; isplitr; · (ipureintro; rfl)
    iexact H20
  isplitl [H21]
  · iexists _; iexists f; isplitr; · (ipureintro; rfl)
    iexact H21
  isplitl [H30]
  · iexists _; iexists f; isplitr; · (ipureintro; rfl)
    iexact H30
  · iexists _; iexists f; isplitr; · (ipureintro; rfl)
    iexact H31

theorem piece_pts (c : Dev nD) (b : Bool) (s : Fin 4) (j : Fin 2) :
    iprop(∃ V, piece (F := F) c b s j V)
      ⊢ iprop(∃ f : Buf (Elt F) ((comm b).view.loc (c : Thread nD τ)), ((comm b).view.loc (c : Thread nD τ) ↦[(pc b s j).view.set]{fullShare} f : sProp 𝕄)) := by
  unfold piece owns
  iintro ⟨%V, %f, %hf, H⟩
  iexists f
  iexact H

/-- Joined at the end: the eight pieces are the whole buffer again. -/
theorem join (c : Dev nD) (b : Bool) :
    (bigSep Finset.univ fun p : Fin 4 × Fin 2 => iprop(∃ V, piece (F := F) c b p.1 p.2 V)) ⊢ iprop(∃ f, wholePts c b f) := by
  have h1 := bigSep_mono (s := Finset.univ) fun (p : Fin 4 × Fin 2) _ => piece_pts (F := F) c b p.1 p.2
  refine h1.trans ((BI.bigSep_exists_pi Finset.univ _).trans ?_)
  iintro ⟨%fs, H⟩
  ihave H' := (pointsTo_biUnion_join Finset.univ (pcSet c b) fs (fs (0, 0)) (fun p _ q _ h => disj_pc b h)) $$ H
  icases H' with ⟨%g, -, H⟩
  iexists g
  unfold wholePts
  rw [← univ_pcSet]
  iexact H

end Cert.Exch

end
-- ==== Proof.Protocol.lean ====
/-
# The exchange: peers, transfers, cells, schedule, debts

Eight transfers `k` per device, two rounds of four.  Transfer `k` moves half `hf k` of the exchange buffer `buf k` from
slot `src k` to slot `dst k` of the device `peer k c`, which differs from `c` in one way in the first round and in the
other way in the second.  Each transfer has its own pair of semaphores.  Before the first transfer every device tells its
two peers, through the barrier semaphore, that its landing pieces are theirs to write.
-/
module

public import proofs.«01_k».proof.Proof.Slots

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Peers and transfers -/

/-- The device across the first link, and across the second. -/
def p1 (c : Dev nD) : Dev nD := match c with | 0 => 1 | 1 => 0 | 2 => 3 | 3 => 2
def p2 (c : Dev nD) : Dev nD := match c with | 0 => 3 | 1 => 2 | 2 => 1 | 3 => 0

theorem p1_p1 (c : Dev nD) : p1 (p1 c) = c := by revert c; decide
theorem p2_p2 (c : Dev nD) : p2 (p2 c) = c := by revert c; decide
theorem p1_p2 (c : Dev nD) : p1 (p2 c) = p2 (p1 c) := by revert c; decide

/-- The buffer (batch), half of the rows, source slot, landing slot and peer of each transfer. -/
def buf (k : Fin 8) : Bool := match k with | 0 | 1 | 4 | 5 => false | 2 | 3 | 6 | 7 => true
def hf (k : Fin 8) : Fin 2 := match k with | 0 | 2 | 4 | 6 => 0 | 1 | 3 | 5 | 7 => 1
def src (k : Fin 8) : Fin 4 := match k with | 0 | 1 | 2 | 3 => 0 | 4 | 5 | 6 | 7 => 2
def dst (k : Fin 8) : Fin 4 := match k with | 0 | 1 | 2 | 3 => 1 | 4 | 5 | 6 | 7 => 3
def peer (k : Fin 8) (c : Dev nD) : Dev nD := match k with | 0 | 2 | 5 | 7 => p1 c | 1 | 3 | 4 | 6 => p2 c

theorem peer_peer (k : Fin 8) (c : Dev nD) : peer k (peer k c) = c := by revert k c; decide
theorem peer_inj {k : Fin 8} {c d : Dev nD} (h : peer k c = peer k d) : c = d := by rw [← peer_peer k c, h, peer_peer]

def swap1 : Dev nD ≃ Dev nD := ⟨p1, p1, p1_p1, p1_p1⟩
def swap2 : Dev nD ≃ Dev nD := ⟨p2, p2, p2_p2, p2_p2⟩
def swap (k : Fin 8) : Dev nD ≃ Dev nD := ⟨peer k, peer k, peer_peer k, peer_peer k⟩

/-- The kernel's own computations of a peer's number. -/
theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 4 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 6 c := by revert c; decide +kernel
theorem dev10_eq (c : Dev nD) : (⟨k0_dev10 c, k0_dev10_lt c⟩ : Dev nD) = peer 7 c := by revert c; decide +kernel

/-! ## Cells -/

/-- The runtime's barrier semaphore (unscoped). -/
abbrev barS : Sem sig := (SemArray.scalar (sig.barrier 0 rfl) : Sems sig S_).sem

theorem inb_sem (k : Fin 8) (a : Fin 1) : (![k.val] : Fin 1 → Nat) a + S1.size a ≤ S8.size a := by revert k a; decide

/-- Transfer `k`'s pair of semaphores. -/
abbrev sendS (k : Fin 8) : DmaSem sig := ((cc0_scratch2.slice (Rect.unit (s := S8) ![k.val] S1.size (inb_sem k))).squeeze S_ squeezes_S1_S_).sem
abbrev recvS (k : Fin 8) : DmaSem sig := ((cc0_scratch3.slice (Rect.unit (s := S8) ![k.val] S1.size (inb_sem k))).squeeze S_ squeezes_S1_S_).sem

/-- A device's seventeen cells: the barrier (`none`), transfer `k`'s send (`(false, k)`) and receive (`(true, k)`) cell. -/
abbrev CI : Type := Option (Bool × Fin 8)
abbrev osem : Bool × Fin 8 → SemLoc sig := fun | (false, k) => .dma (sendS k) | (true, k) => .dma (recvS k)
abbrev csem : CI → SemLoc sig := fun | none => .reg barS | some x => osem x
abbrev kcell (ck : Dev nD × CI) : GSem nD τ sig := ((ck.1 : Thread nD τ), csem ck.2)

abbrev barCell (c : Dev nD) : GSem nD τ sig := kcell (c, none)
abbrev sendCell (c : Dev nD) (k : Fin 8) : GSem nD τ sig := kcell (c, some (false, k))
abbrev recvCell (c : Dev nD) (k : Fin 8) : GSem nD τ sig := kcell (c, some (true, k))

/-- Which of a device's cells a semaphore is, if any. -/
def dec (sm : SemLoc sig) : Option CI :=
  (none :: (List.finRange 8).map (fun k => some (false, k)) ++ (List.finRange 8).map (fun k => some (true, k))).find? fun i => csem i = sm

theorem dec_csem (i : CI) : dec (csem i) = some i := by revert i; decide +kernel
theorem csem_injective : Function.Injective csem := fun i j h => Option.some.inj ((dec_csem i).symm.trans ((congrArg dec h).trans (dec_csem j)))
theorem kcell_injective : Function.Injective (kcell : Dev nD × CI → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- A piece's credit. -/
abbrev N : ℕ := (pc false 0 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged inputs of device `c`: `x`, `Wq`, `Wo`, `Wk`, `Wv`. -/
def stgX (c : Dev nD) : (cc0_stg0_0 : Ref sig .tc).ty.Contents (Elt F) := (win0_0.blk (0 : Fin 1)).view.read (Elt F) (m ((c : Thread nD τ).loc main_arg0))
def stgWq (c : Dev nD) : (cc0_stg1_0 : Ref sig .tc).ty.Contents (Elt F) := (win0_1.blk (0 : Fin 1)).view.read (Elt F) (m ((c : Thread nD τ).loc main_arg1))
def stgWo (c : Dev nD) : (cc0_stg2_0 : Ref sig .tc).ty.Contents (Elt F) := (win0_2.blk (0 : Fin 1)).view.read (Elt F) (m ((c : Thread nD τ).loc main_arg4))
def stgWk (c : Dev nD) : (cc0_stg3_0 : Ref sig .tc).ty.Contents (Elt F) := (win0_3.blk (0 : Fin 1)).view.read (Elt F) (m ((c : Thread nD τ).loc main_arg2))
def stgWv (c : Dev nD) : (cc0_stg4_0 : Ref sig .tc).ty.Contents (Elt F) := (win0_4.blk (0 : Fin 1)).view.read (Elt F) (m ((c : Thread nD τ).loc main_arg3))

/-- Batch `b` of the staged `x`, as the body loads it. -/
def xb (c : Dev nD) : Bool → Vec F S1x256x768 .bf16
  | false => (Memref.whole cc0_stg0_0 : Memref sig .tc .vmem S2x256x768 .bf16).view.readAt (Elt F)
      (Rect.unit (s := S2x256x768) ![0, 0, 0] S1x256x768.size inb_S2x256x768_S1x256x768_0_0_0).toLoadRect (stgX m c)
  | true => (Memref.whole cc0_stg0_0 : Memref sig .tc .vmem S2x256x768 .bf16).view.readAt (Elt F)
      (Rect.unit (s := S2x256x768) ![1, 0, 0] S1x256x768.size inb_S2x256x768_S1x256x768_1_0_0).toLoadRect (stgX m c)

/-- A device's partial product for one batch, from its blocks of the weights and the batch's rows. -/
def partOf (wq wk wv : Vec F S768x512 .bf16) (wo : Vec F S512x768 .bf16) (x : Vec F S1x256x768 .bf16) : Vec F S1x2x128x768 .bf16 :=
  k0_pay19 (k0_pay5 wo) (k0_pay7 wq x) (k0_pay8 wk x) (k0_pay9 wv x) (k0_pay10 wq wk wv x)
    (k0_pay13 (k0_pay9 wv x) (k0_pay11 wq x) (k0_pay12 wk x)) (k0_pay14 (k0_pay7 wq x) (k0_pay8 wk x) (k0_pay9 wv x))
    (k0_pay15 (k0_pay7 wq x) (k0_pay8 wk x) (k0_pay9 wv x)) (k0_pay16 (k0_pay7 wq x) (k0_pay8 wk x) (k0_pay9 wv x))
    (k0_pay17 (k0_pay7 wq x)) (k0_pay18 (k0_pay8 wk x))

/-- The second batch's text computes the same from its rows. -/
theorem partOf_second (wq wk wv : Vec F S768x512 .bf16) (wo : Vec F S512x768 .bf16) (x : Vec F S1x256x768 .bf16) :
    k0_pay31 (k0_pay5 wo) (k0_pay21 (k0_pay2 wq) x) (k0_pay22 (k0_pay3 wk) x) (k0_pay23 (k0_pay4 wv) x)
      (k0_pay24 (k0_pay2 wq) (k0_pay3 wk) (k0_pay4 wv) x) (k0_pay25 (k0_pay2 wq) (k0_pay3 wk) (k0_pay4 wv) x)
      (k0_pay26 (k0_pay2 wq) (k0_pay3 wk) (k0_pay4 wv) x)
      (k0_pay27 (k0_pay21 (k0_pay2 wq) x) (k0_pay22 (k0_pay3 wk) x) (k0_pay23 (k0_pay4 wv) x))
      (k0_pay28 (k0_pay21 (k0_pay2 wq) x) (k0_pay22 (k0_pay3 wk) x) (k0_pay23 (k0_pay4 wv) x))
      (k0_pay29 (k0_pay21 (k0_pay2 wq) x) (k0_pay22 (k0_pay3 wk) x) (k0_pay23 (k0_pay4 wv) x))
      (k0_pay30 (k0_pay21 (k0_pay2 wq) x) (k0_pay22 (k0_pay3 wk) x) (k0_pay23 (k0_pay4 wv) x)) = partOf wq wk wv wo x := rfl

def part (c : Dev nD) (b : Bool) : Vec F S1x2x128x768 .bf16 := partOf (stgWq m c) (stgWk m c) (stgWv m c) (stgWo m c) (xb m c b)

/-- The sum of a device's own piece and the one it received, rounded: every first-round sum is this one. -/
abbrev sum1 (own got : PieceC F) : Vec F S1x1x128x768 .bf16 := k0_pay34 (up own) (up got)
theorem sum1_a0 (u v : Vec F S1x1x128x768 .bf16) : k0_pay33 (k0_pay32 u) v = k0_pay34 u v := rfl
theorem sum1_b0 (u v : Vec F S1x1x128x768 .bf16) : k0_pay35 u v = k0_pay34 u v := rfl
theorem sum1_b1 (u v : Vec F S1x1x128x768 .bf16) : k0_pay36 u v = k0_pay34 u v := rfl
/-- The second-round sum, which goes to the result: all four are one. -/
abbrev sum2 (own got : PieceC F) : Vec F S1x128x768 .f32 := k0_pay38 (up own) (up got)
theorem sum2_a0 (u v : Vec F S1x1x128x768 .bf16) : k0_pay37 u v = k0_pay38 u v := rfl
theorem sum2_b0 (u v : Vec F S1x1x128x768 .bf16) : k0_pay39 u v = k0_pay38 u v := rfl
theorem sum2_b1 (u v : Vec F S1x1x128x768 .bf16) : k0_pay1 (k0_pay40 u v) = k0_pay38 u v := rfl

/-- The transfer that carries half `j` of batch `b` in the first round, and in the second. -/
def tr1 (b : Bool) (j : Fin 2) : Fin 8 := match b, j with | false, 0 => 0 | false, 1 => 1 | true, 0 => 2 | true, 1 => 3
def tr2 (b : Bool) (j : Fin 2) : Fin 8 := match b, j with | false, 0 => 4 | false, 1 => 5 | true, 0 => 6 | true, 1 => 7

/-- Half `j` of batch `b` after each round: a device's own, its pair's sum; `outPiece`, all four devices' sum. -/
def own1 (c : Dev nD) (b : Bool) (j : Fin 2) : PieceC F := half (part m c b) j
def own2 (c : Dev nD) (b : Bool) (j : Fin 2) : PieceC F := down (sum1 (own1 m c b j) (own1 m (peer (tr1 b j) c) b j))
def outPiece (c : Dev nD) (b : Bool) (j : Fin 2) : Vec F S1x128x768 .f32 := sum2 (own2 m c b j) (own2 m (peer (tr2 b j) c) b j)

/-- What transfer `k` carries away from device `c`. -/
def val (k : Fin 8) (c : Dev nD) : PieceC F := match k with
  | 0 => own1 m c false 0 | 1 => own1 m c false 1 | 2 => own1 m c true 0 | 3 => own1 m c true 1
  | 4 => own2 m c false 0 | 5 => own2 m c false 1 | 6 => own2 m c true 0 | 7 => own2 m c true 1

/-! ## The schedule -/

/-- Device `c`'s landing piece of transfer `k`, at any contents. -/
def landing (c : Dev nD) (k : Fin 8) : sProp 𝕄 := iprop(∃ V, piece c (buf k) (dst k) (hf k) V)

/-- What device `c`'s barrier hands it: from `p1 c` (duty `false`) its four landing pieces, from `p2 c` its other four. -/
def barPay (c : Dev nD) : Bool → sProp 𝕄
  | false => iprop(landing (p1 c) 0 ∗ landing (p1 c) 2 ∗ landing (p1 c) 5 ∗ landing (p1 c) 7)
  | true => iprop(landing (p2 c) 1 ∗ landing (p2 c) 3 ∗ landing (p2 c) 4 ∗ landing (p2 c) 6)
def sendPay (c : Dev nD) (k : Fin 8) : sProp 𝕄 := piece c (buf k) (src k) (hf k) (val m k c)
def recvPay (c : Dev nD) (k : Fin 8) : sProp 𝕄 := piece c (buf k) (dst k) (hf k) (val m k (peer k c))

instance piece_storable (c : Dev nD) (b : Bool) (s : Fin 4) (j : Fin 2) (V : PieceC F) : BI.Storable (upEmb : UEmb _ 𝕄) (piece c b s j V) := by
  unfold piece owns; infer_instance
instance landing_storable (c : Dev nD) (k : Fin 8) : BI.Storable (upEmb : UEmb _ 𝕄) (landing (F := F) c k) := by unfold landing; infer_instance
instance barPay_storable (c : Dev nD) (d : Bool) : BI.Storable (upEmb : UEmb _ 𝕄) (barPay (F := F) c d) := by
  cases d <;> (unfold barPay; infer_instance)
instance sendPay_storable (c : Dev nD) (k : Fin 8) : BI.Storable (upEmb : UEmb _ 𝕄) (sendPay m c k) := by unfold sendPay; infer_instance
instance recvPay_storable (c : Dev nD) (k : Fin 8) : BI.Storable (upEmb : UEmb _ 𝕄) (recvPay m c k) := by unfold recvPay; infer_instance

def dutiesOf : Option CI → Finset Bool | some none => Finset.univ | some (some _) => {false} | none => ∅
def amountOf : Option CI → ℕ | some none => 1 | _ => N
def payOf (c : Dev nD) (d : Bool) : Option CI → sProp 𝕄
  | some none => barPay c d | some (some (false, k)) => sendPay m c k | some (some (true, k)) => recvPay m c k | none => iprop(emp)

/-- One round: a barrier cell's two duties are of one unit each, a transfer cell's one duty of the piece's credit. -/
def exRd : Rounds.Schedule (GSem nD τ sig) Bool 𝕄 where
  duties g r := if r = 0 ∧ g.1.2 = .tc then dutiesOf (dec g.2) else ∅
  unitless _ := False
  amount g _ _ := amountOf (dec g.2)
  payload g _ d := payOf m g.1.1 d (dec g.2)
  amount_pos g _ _ _ := by
    rcases dec g.2 with _ | _ | _ <;> first | exact N_pos | exact Nat.one_pos

instance exRd_payload_storable (g : GSem nD τ sig) (r : ℕ) (d : Bool) : BI.Storable (upEmb : UEmb _ 𝕄) ((exRd (F := F) m).payload g r d) := by
  show BI.Storable upEmb (payOf m g.1.1 d (dec g.2))
  rcases dec g.2 with _ | _ | ⟨_ | _, _⟩ <;> (unfold payOf; infer_instance)

section Sched
variable (c : Dev nD) (k : Fin 8)

theorem duties_bar : (exRd m).duties (barCell c) 0 = Finset.univ := by
  dsimp only [exRd]; rw [if_pos ⟨rfl, rfl⟩, dec_csem]; rfl
theorem duties_xfer (x : Bool × Fin 8) : (exRd m).duties (kcell (c, some x)) 0 = {false} := by
  dsimp only [exRd]; rw [if_pos ⟨rfl, rfl⟩, dec_csem]; rfl
theorem duties_later (g : GSem nD τ sig) : ∀ r, 1 ≤ r → (exRd m).duties g r = ∅ :=
  fun r hr => by dsimp only [exRd]; rw [if_neg fun h => by omega]
theorem amount_bar (d : Bool) : (exRd m).amount (barCell c) 0 d = 1 := by dsimp only [exRd]; rw [dec_csem]; rfl
theorem amount_xfer (x : Bool × Fin 8) (d : Bool) : (exRd m).amount (kcell (c, some x)) 0 d = N := by dsimp only [exRd]; rw [dec_csem]; rfl
theorem expect_bar : (exRd m).expect (barCell c) 0 = 2 := by
  unfold Schedule.expect Schedule.amountOf
  rw [duties_bar, Finset.sum_congr rfl fun d _ => amount_bar m c d, Finset.sum_const, Finset.card_univ, Fintype.card_bool, smul_eq_mul]
theorem expect_xfer (x : Bool × Fin 8) : (exRd m).expect (kcell (c, some x)) 0 = N := by
  unfold Schedule.expect Schedule.amountOf; rw [duties_xfer, Finset.sum_singleton, amount_xfer]
theorem payload_bar (d : Bool) : (exRd m).payload (barCell c) 0 d = barPay c d := by dsimp only [exRd]; rw [dec_csem]; rfl
theorem payload_send (d : Bool) : (exRd m).payload (sendCell c k) 0 d = sendPay m c k := by dsimp only [exRd]; rw [dec_csem]; rfl
theorem payload_recv (d : Bool) : (exRd m).payload (recvCell c k) 0 d = recvPay m c k := by dsimp only [exRd]; rw [dec_csem]; rfl

theorem rest_bar : bigSep ((exRd m).duties (barCell c) 0 \ ∅) (fun d => (exRd m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((exRd m).duties (sendCell c k) 0 \ ∅) (fun d => (exRd m).payload (sendCell c k) 0 d) = sendPay m c k := by
  rw [Finset.sdiff_empty, duties_xfer, bigSep_singleton, payload_send]
theorem rest_recv : bigSep ((exRd m).duties (recvCell c k) 0 \ ∅) (fun d => (exRd m).payload (recvCell c k) 0 d) = recvPay m c k := by
  rw [Finset.sdiff_empty, duties_xfer, bigSep_singleton, payload_recv]

end Sched

/-! ## What each device owes; the levels -/

/-- The credits of the transfers `ks` still to be sent, the first of the list peeled first. -/
def owed (c : Dev nD) : List (Fin 8) → CellTallies nD τ sig Unit
  | [] => 0
  | k :: ks => owed c ks + tallyAt (recvCell (peer k c) k) () N

/-- At launch: all eight credits and both peers' barrier units. -/
def O₁ (c : Dev nD) : CellTallies nD τ sig Unit := owed c (List.finRange 8) + tallyAt (barCell (p2 c)) () 1
def O₀ (c : Dev nD) : CellTallies nD τ sig Unit := O₁ c + tallyAt (barCell (p1 c)) () 1

def L (g : GSem nD τ sig) : Finset Unit := if g.1.2 = .tc then {()} else ∅
/-- Barrier cells at 1, transfer `k`'s receive cell at `2 + k`, everything else (staging, send) at 0. -/
def levOf : Option CI → ℕ | some none => 1 | some (some (true, k)) => 2 + k.val | _ => 0
def lv (g : GSem nD τ sig) (_ : Unit) : ℕ := levOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := congrArg levOf (dec_csem none)
theorem lv_recv (c : Dev nD) (k : Fin 8) (u : Unit) : lv (recvCell c k) u = 2 + k.val := congrArg levOf (dec_csem (some (true, k)))
theorem lv_send (c : Dev nD) (k : Fin 8) (u : Unit) : lv (sendCell c k) u = 0 := congrArg levOf (dec_csem (some (false, k)))

theorem owed_pos {c : Dev nD} {ks : List (Fin 8)} {g : GSem nD τ sig} {u : Unit} (h : 0 < owed c ks g u) :
    ∃ k ∈ ks, g = recvCell (peer k c) k := by
  induction ks with
  | nil => exact absurd h (Nat.lt_irrefl 0)
  | cons k ks ih =>
    unfold owed at h
    rw [Pi.add_apply, Finsupp.add_apply, tallyAt_apply] at h
    by_cases hg : g = recvCell (peer k c) k ∧ u = ()
    · exact ⟨k, List.mem_cons_self, hg.1⟩
    · rw [if_neg hg, Nat.add_zero] at h
      obtain ⟨k', hk', e⟩ := ih h
      exact ⟨k', List.mem_cons_of_mem _ hk', e⟩

theorem O₀_pos {c : Dev nD} {g : GSem nD τ sig} {u : Unit} (h : 0 < O₀ c g u) :
    (∃ k, g = recvCell (peer k c) k) ∨ g = barCell (p2 c) ∨ g = barCell (p1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), add_zero, add_zero] at h
  obtain ⟨k, -, e⟩ := owed_pos h
  exact hn.1 ⟨k, e⟩

/-- A wait on a cell below the receive cells of all the transfers still to be sent. -/
theorem mayWait_owed (c : Dev nD) (sm : SemLoc sig) (ks : List (Fin 8)) (n : ℕ) (hs : lv ((c : Thread nD τ), sm) () ≤ n) (hn : ∀ k ∈ ks, n < 2 + k.val) :
    (levAts L lv : sProp 𝕄) ⊢ MayWait (c : Thread nD τ) sm () (owed c ks) :=
  MayOwe.of_cut (L := L) (lev := lv) n (fun p hp => by rw [Finset.mem_singleton.mp hp, L_tc]; exact Finset.mem_singleton_self _)
    (fun g u hg => by obtain ⟨k, -, rfl⟩ := owed_pos hg; exact Finset.mem_singleton_self _)
    (fun p hp => by rw [Finset.mem_singleton.mp hp]; exact hs)
    (fun g u hg => by obtain ⟨k, hk, rfl⟩ := owed_pos hg; rw [lv_recv]; exact hn k hk)

/-- A wait on a staging cell, before the body and after it. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; unfold lv; rw [hq]; exact Nat.le_refl _)
      (fun g u hg => by
        rcases O₀_pos hg with ⟨k, rfl⟩ | rfl | rfl
        · rw [lv_recv]; omega
        · rw [lv_bar]; exact Nat.one_pos
        · rw [lv_bar]; exact Nat.one_pos)
  · rw [MayWait_zero]; iintro -; iempintro

end Cert.Exch

end
-- ==== Proof.Steps.lean ====
/-
# The exchange, one step at a time

What a device holds of a transfer before it sends, between its send and its waits, and after them; and the three kinds of
step the body takes: a signal to a peer's barrier with the wait on its own, a send, a pair of waits.
-/
module

public import proofs.«01_k».proof.Proof.Protocol

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What a device holds -/

/-- Every cell's invariant, and that every cell has reached its round: shared by all devices. -/
def records : sProp 𝕄 :=
  iprop((bigSep Finset.univ fun ck : Dev nD × CI => cellInv ER (exRd m) (K ck) (kcell ck))
    ∗ bigSep Finset.univ fun ck : Dev nD × CI => reached ER (kcell ck) 0)

instance records_persistent : BI.Persistent (records m K) := by unfold records; infer_instance

theorem inv_at (ck : Dev nD × CI) : records m K ⊢ cellInv ER (exRd m) (K ck) (kcell ck) := by
  unfold records
  exact sep_elim_left.trans (bigSep_elim (Finset.mem_univ ck))
theorem reached_at (ck : Dev nD × CI) : records m K ⊢ reached ER (kcell ck) 0 := by
  unfold records
  exact sep_elim_right.trans (bigSep_elim (Finset.mem_univ ck))

/-- Of transfer `k`, from the launch: the positions of its two cells and the tokens of the two duties its send pays. -/
def tk (c : Dev nD) (k : Fin 8) : sProp 𝕄 :=
  iprop((atPos ER (sendCell c k) 0 ∅ 0 ∗ atPos ER (recvCell c k) 0 ∅ 0)
    ∗ (dutyTok ER (sendCell c k) 0 false ∗ dutyTok ER (recvCell (peer k c) k) 0 false))
/-- With the credit its peer's send will raise. -/
def xs (c : Dev nD) (k : Fin 8) : sProp 𝕄 := iprop(tk c k ∗ cred (tallyAt (recvCell c k) () N))
/-- Sent: the credit of its own send in the tokens' place. -/
def xm (c : Dev nD) (k : Fin 8) : sProp 𝕄 :=
  iprop((atPos ER (sendCell c k) 0 ∅ 0 ∗ atPos ER (recvCell c k) 0 ∅ 0)
    ∗ cred (tallyAt (sendCell c k) () N) ∗ cred (tallyAt (recvCell c k) () N))
/-- Done: both cells closed, their counters zero. -/
def xe (c : Dev nD) (k : Fin 8) : sProp 𝕄 := iprop(semVal (sendCell c k) 0 ∗ semVal (recvCell c k) 0)

/-- What a device owes, whatever it has waited on. -/
def owesE (c : Dev nD) (O : CellTallies nD τ sig Unit) : sProp 𝕄 := iprop(∃ W, owes (c : Thread nD τ) O W)

/-- A piece's elements at contents that read `V` are the piece at `V`. -/
theorem held_piece (c : Dev nD) (b : Bool) (s : Fin 4) (j : Fin 2) {V : PieceC F} {f : Buf (Elt F) ((pc b s j).view.loc (c : Thread nD τ))}
    (h : (pc b s j).view.read (Elt F) f = V) :
    ((pc b s j).view.loc (c : Thread nD τ) ↦[(pc b s j).view.set]{fullShare} f : sProp 𝕄) ⊢ piece c b s j V := by
  unfold piece owns
  iintro H; iexists f; isplitr
  · ipureintro; exact h
  iexact H

/-! ## The steps -/

/-- A send of transfer `k`: the piece goes, the landing piece at the peer is written, the credit is no longer owed. -/
theorem step_send (c n : Dev nD) (k : Fin 8) (hn : n = peer k c) (ks : List (Fin 8))
    {sM dM : Memref sig .tc .vmem S128x768 .bf16} (hs : sM = pc (buf k) (src k) (hf k)) (hd : dM = pc (buf k) (dst k) (hf k))
    {s₁ s₂ : DmaSem sig} (h₁ : s₁ = sendS k) (h₂ : s₂ = recvS k)
    {hsc : (dM : Memref sig (Dev.tc n : Thread nD τ).2.kind .vmem S128x768 .bf16).view.ref.isScScratch = false}
    {hsrc : sM.view.WordExact} {hdst : dM.view.WordExact}
    {hsem : DmaTarget.Typed .vmem (.dma s₂) (.remote (Dev.tc n : Thread nD τ) dM (.dma s₁) hsc)}
    {α : Type} {Q : α → sProp 𝕄} {kk : PUnit → Prog (TpuEff nD τ sig (Elt F) Λ₀ .tc) α} :
    iprop(records m K ∗ sendPay m c k ∗ landing (peer k c) k ∗ xs c k ∗ owesE c (owed c (k :: ks)))
      ⊢ iprop((iprop(xm c k ∗ owesE c (owed c ks)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc n : Thread nD τ) dM (.dma s₁) hsc) (.dma s₂) hsrc hdst hsem) kk) Q) := by
  subst hn hs hd h₁ h₂
  unfold sendPay landing xs tk owesE piece owns
  iintro ⟨#HR, ⟨%fs, %hfs, Hs⟩, ⟨%V, %fd, -, Hd⟩, ⟨⟨Hat, HtS, HtV⟩, HcV⟩, ⟨%W, HO⟩⟩ Hk
  iapply (Rounds.wp_send_pointsTo 𝒱₀ ER (exRd m) (c : Thread nD τ) none (κ₁ := K (c, some (false, k))) (κ₂ := K (peer k c, some (true, k)))
    (r₁ := 0) (r₂ := 0) (d₁ := false) (d₂ := false) (fs := fs) (fd := fd) (q := fullShare)
    (by rw [duties_xfer]; exact Finset.mem_singleton_self _) (by rw [duties_xfer]; exact Finset.mem_singleton_self _)
    () () N (by rcases k with ⟨_ | _ | _ | _ | _ | _ | _ | _ | n, hk⟩ <;> first | rfl | omega)
    (amount_xfer m c (false, k) false) (amount_xfer m (peer k c) (true, k) false) (owed c ks) rfl (W := W)
    (by rw [payload_send]; unfold sendPay; exact held_piece c _ _ _ hfs)
    (by
      rw [payload_recv]; unfold recvPay; rw [peer_peer]
      exact held_piece (peer k c) _ _ _ ((View.read_write_univ _ _).trans hfs))) $$ [HO Hs Hd HtS HtV]
  · isplitr; · iapply (inv_at m K (c, some (false, k))); iexact HR
    isplitr; · iapply (inv_at m K (peer k c, some (true, k))); iexact HR
    isplitl [Hs]; · iexact Hs
    isplitl [Hd]; · iexact Hd
    isplitl [HO]; · iexact HO
    isplitl [HtS]; · iexact HtS
    isplitr; · iapply (reached_at m K (c, some (false, k))); iexact HR
    isplitl [HtV]; · iexact HtV
    iapply (reached_at m K (peer k c, some (true, k))); iexact HR
  iintro ⟨HcS, HO⟩
  iapply Hk
  isplitr [HO]
  · unfold xm
    isplitl [Hat]; · iexact Hat
    isplitl [HcS] <;> iassumption
  · iexists W; iexact HO

/-- The two waits of transfer `k`, on its send and on its receive cell: the piece sent is back, the one awaited is here, both
    cells close. -/
theorem step_wait (c : Dev nD) (k : Fin 8) (ks : List (Fin 8)) (hks : ∀ k' ∈ ks, k < k')
    {a₁ b₁ a₂ b₂ : Memref sig .tc .vmem S128x768 .bf16}
    {s₁ s₂ : DmaSem sig} (h₁ : s₁ = sendS k) (h₂ : s₂ = recvS k)
    {ha₁ : a₁.view.WordExact} {hb₁ : b₁.view.WordExact} {ha₂ : a₂.view.WordExact} {hb₂ : b₂.view.WordExact}
    {α : Type} {Q : α → sProp 𝕄} {kk : PUnit → Prog (TpuEff nD τ sig (Elt F) Λ₀ .tc) α} :
    iprop(records m K ∗ levAts L lv ∗ xm c k ∗ owesE c (owed c ks))
      ⊢ iprop((iprop(xe c k ∗ owesE c (owed c ks) ∗ sendPay m c k ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s₁ a₁ b₁ ha₁ hb₁) fun _ => .op (.waitDma2 s₂ a₂ b₂ ha₂ hb₂) kk) Q) := by
  subst h₁ h₂
  have hN₁ : b₁.view.dmaCredit = N := rfl
  have hN₂ : b₂.view.dmaCredit = N := rfl
  unfold xm xe owesE
  iintro ⟨#HR, #Hlev, ⟨⟨HaS, HaV⟩, HcS, HcV⟩, ⟨%W, HO⟩⟩ Hk
  iapply (Rounds.wp_wait_rest_token 𝒱₀ ER (exRd m) (c : Thread nD τ) none (κ := K (c, some (false, k)))
      (wpE_waitDma2_eq 𝒱₀ (c : Thread nD τ) none Set.univ) (Set.mem_univ _) () (O := owed c ks) (W := W) (R := 0) (m := 0) (T := ∅)
      (k' := b₁.view.dmaCredit) (by rw [Nat.zero_add, expect_xfer m c (false, k), hN₁])) $$ [HcS HO HaS]
  · isplitr; · iapply (inv_at m K (c, some (false, k))); iexact HR
    isplitl [HcS]; · rw [hN₁]; iexact HcS
    isplitl [HO]; · iexact HO
    isplitr
    · iapply (mayWait_owed c (.dma (sendS k)) ks 0 (Nat.le_of_eq (lv_send c k ())) (fun k' _ => by omega)); iexact Hlev
    iexact HaS
  iintro ⟨HO, HaS, -, Hpay⟩
  ihave Hs := (Entails.of_eq (rest_send m c k)) $$ Hpay
  iapply (Rounds.wp_wait_rest_token 𝒱₀ ER (exRd m) (c : Thread nD τ) none (κ := K (c, some (true, k)))
      (wpE_waitDma2_eq 𝒱₀ (c : Thread nD τ) none Set.univ) (Set.mem_univ _) () (O := owed c ks) (R := 0) (m := 0) (T := ∅)
      (k' := b₂.view.dmaCredit) (by rw [Nat.zero_add, expect_xfer m c (true, k), hN₂])) $$ [HcV HO HaV]
  · isplitr; · iapply (inv_at m K (c, some (true, k))); iexact HR
    isplitl [HcV]; · rw [hN₂]; iexact HcV
    isplitl [HO]; · iexact HO
    isplitr
    · iapply (mayWait_owed c (.dma (recvS k)) ks (2 + k.val) (Nat.le_of_eq (lv_recv c k ()))
        (fun k' hk' => Nat.add_lt_add_left (hks k' hk') 2)); iexact Hlev
    iexact HaV
  iintro ⟨HO, HaV, -, Hpay⟩
  ihave Hv := (Entails.of_eq (rest_recv m c k)) $$ Hpay
  imod (Rounds.cell_close ER (exRd m) (Set.mem_univ (K (c, some (false, k)))) (fun h => h) (R := 0 + 1) (duties_later m (sendCell c k))) $$ [HaS] with HzS
  · isplitr; · iapply (inv_at m K (c, some (false, k))); iexact HR
    iexact HaS
  imod (Rounds.cell_close ER (exRd m) (Set.mem_univ (K (c, some (true, k)))) (fun h => h) (R := 0 + 1) (duties_later m (recvCell c k))) $$ [HaV] with HzV
  · isplitr; · iapply (inv_at m K (c, some (true, k))); iexact HR
    iexact HaV
  iapply Hk
  isplitl [HzS HzV]
  · isplitl [HzS] <;> iassumption
  isplitl [HO]
  · iexists _; iexact HO
  isplitl [Hs] <;> iassumption

/-- The barrier: a unit to each peer with the landing pieces it will write, then the wait for both peers' units, which bring
    the eight landing pieces this device will write. -/
theorem step_barrier (c n₁ n₂ : Dev nD) (hn₁ : n₁ = p1 c) (hn₂ : n₂ = p2 c) {s : Sem sig} (hs : s = barS)
    {α : Type} {Q : α → sProp 𝕄} {kk : PUnit → Prog (TpuEff nD τ sig (Elt F) Λ₀ .tc) α} :
    iprop(records m K ∗ levAts L lv
        ∗ (atPos ER (barCell c) 0 ∅ 0 ∗ dutyTok ER (barCell (p1 c)) 0 false ∗ dutyTok ER (barCell (p2 c)) 0 true ∗ cred (tallyAt (barCell c) () 2))
        ∗ owesE c (O₀ c)
        ∗ (landing c 0 ∗ landing c 2 ∗ landing c 5 ∗ landing c 7) ∗ (landing c 1 ∗ landing c 3 ∗ landing c 4 ∗ landing c 6))
      ⊢ iprop((iprop(semVal (barCell c) 0 ∗ owesE c (owed c (List.finRange 8)) ∗ barPay c false ∗ barPay c true)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (n₁ : Thread nD τ) s (1#32).toNat) fun _ => .op (.semSignal (n₂ : Thread nD τ) s (1#32).toNat) fun _ => .op (.semWait s (2#32).toNat) kk) Q) := by
  subst hn₁ hn₂ hs
  unfold owesE
  iintro ⟨#HR, #Hlev, ⟨HatB, Ht1, Ht2, HcB⟩, ⟨%W, HO⟩, Hl1, Hl2⟩ Hk
  iapply (Rounds.wp_signal 𝒱₀ ER (exRd m) (c : Thread nD τ) none (dst := (p1 c : Thread nD τ)) (κ := K (p1 c, none))
      (d := false) (by rw [duties_bar]; exact Finset.mem_univ _) ((amount_bar m (p1 c) false).trans (by decide)) () (O₁ c) rfl)
    $$ [HO Ht1 Hl1]
  · isplitr; · iapply (inv_at m K (p1 c, none)); iexact HR
    isplitl [HO]; · iexact HO
    isplitl [Ht1]; · iexact Ht1
    isplitl [Hl1]
    · rw [payload_bar]; unfold barPay; rw [p1_p1]; iexact Hl1
    iapply (reached_at m K (p1 c, none)); iexact HR
  iintro HO
  iapply (Rounds.wp_signal 𝒱₀ ER (exRd m) (c : Thread nD τ) none (dst := (p2 c : Thread nD τ)) (κ := K (p2 c, none))
      (d := true) (by rw [duties_bar]; exact Finset.mem_univ _) ((amount_bar m (p2 c) true).trans (by decide)) () (owed c (List.finRange 8)) rfl)
    $$ [HO Ht2 Hl2]
  · isplitr; · iapply (inv_at m K (p2 c, none)); iexact HR
    isplitl [HO]; · iexact HO
    isplitl [Ht2]; · iexact Ht2
    isplitl [Hl2]
    · rw [payload_bar]; unfold barPay; rw [p2_p2]; iexact Hl2
    iapply (reached_at m K (p2 c, none)); iexact HR
  iintro HO
  iapply (Rounds.wp_wait_rest_token 𝒱₀ ER (exRd m) (c : Thread nD τ) none (κ := K (c, none))
      (wpE_semWait_eq 𝒱₀ (c : Thread nD τ) none Set.univ) (Set.mem_univ _) () (O := owed c (List.finRange 8)) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr
    · iapply (mayWait_owed c (.reg barS) (List.finRange 8) 1 (Nat.le_of_eq (lv_bar c ())) (fun k' _ => by omega)); iexact Hlev
    iexact HatB
  iintro ⟨HO, HatB, -, Hpay⟩
  ihave Hp := (Entails.of_eq (rest_bar m c)) $$ Hpay
  imod (Rounds.cell_close ER (exRd m) (Set.mem_univ (K (c, none))) (fun h => h) (R := 0 + 1) (duties_later m (barCell c))) $$ [HatB] with HzB
  · isplitr; · iapply (inv_at m K (c, none)); iexact HR
    iexact HatB
  iapply Hk
  isplitl [HzB]; · iexact HzB
  isplitl [HO]; · iexists _; iexact HO
  iexact Hp

end Cert.Exch

end
-- ==== Proof.Body.lean ====
/-
# The body on one device

The kernel's body run from what the launch deals a device to what it leaves: each exchange buffer cut in its pieces, the
eight transfers sent and awaited in the body's order, the four quarters of the result stored.
-/
module

public import proofs.«01_k».proof.Proof.Steps

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The quarter of the result for half `j` of batch `b`. -/
theorem inb_out (b : Bool) (j : Fin 2) (a : Fin 3) : (![b.toNat, 128 * j.val, 0] : Fin 3 → Nat) a + S1x128x768.size a ≤ S2x256x768.size a := by
  revert b j a; decide
abbrev oRect (b : Bool) (j : Fin 2) : Rect S2x256x768 := Rect.unit (s := S2x256x768) ![b.toNat, 128 * j.val, 0] S1x128x768.size (inb_out b j)

/-- What device `c` leaves in its result: row `r` of batch `b` is row `r mod 128` of that half's sum over the devices. -/
def outAt (c : Dev nD) : (cc0_stg5_0 : Ref sig .tc).ty.Contents (Elt F) := fun (i : S2x256x768.Idx) =>
  outPiece m c (decide ((i 0 : ℕ) = 1)) ⟨(i 1 : ℕ) / 128, Nat.div_lt_of_lt_mul (i 1).isLt⟩
    (fun
      | ⟨0, _⟩ => ⟨0, Nat.one_pos⟩
      | ⟨1, _⟩ => ⟨(i 1 : ℕ) % 128, Nat.mod_lt _ (by decide)⟩
      | ⟨2, _⟩ => i 2)

abbrev oM : Memref sig .tc .vmem S2x256x768 .f32 := Memref.whole cc0_stg5_0

theorem outAt_rect (c : Dev nD) (b : Bool) (j : Fin 2) (x : S1x128x768.Idx) : outPiece m c b j x = outAt m c ((oRect b j).emb x) := by
  have h0 : (x 0 : ℕ) < 1 := (x 0).isLt
  have h1 : (x 1 : ℕ) < 128 := (x 1).isLt
  have e0 : ((oRect b j).emb x 0 : ℕ) = b.toNat := by show b.toNat + 1 * (x 0 : ℕ) = _; omega
  have e1 : ((oRect b j).emb x 1 : ℕ) = 128 * j.val + (x 1 : ℕ) := by show 128 * j.val + 1 * (x 1 : ℕ) = _; omega
  have hb : decide (((oRect b j).emb x 0 : ℕ) = 1) = b := by rw [e0]; cases b <;> rfl
  have hj : (⟨((oRect b j).emb x 1 : ℕ) / 128, Nat.div_lt_of_lt_mul ((oRect b j).emb x 1).isLt⟩ : Fin 2) = j := by
    apply Fin.ext; show ((oRect b j).emb x 1 : ℕ) / 128 = j.val; rw [e1]; omega
  unfold outAt
  rw [hb, hj]
  refine congrArg _ (funext fun a => Fin.ext ?_)
  fin_cases a
  · show (x 0 : ℕ) = 0; omega
  · show (x 1 : ℕ) = ((oRect b j).emb x 1 : ℕ) % 128; rw [e1]; omega
  · show (x 2 : ℕ) = 0 + 1 * (x 2 : ℕ); omega

/-- The four stores of the result's quarters, over any contents, leave `outAt`. -/
theorem out_written (c : Dev nD) (f : (cc0_stg5_0 : Ref sig .tc).ty.Contents (Elt F)) :
    oM.view.writes (Elt F) f [⟨oRect true 1, outPiece m c true 1⟩, ⟨oRect true 0, outPiece m c true 0⟩,
      ⟨oRect false 1, outPiece m c false 1⟩, ⟨oRect false 0, outPiece m c false 0⟩] = outAt m c := by
  refine (View.read_whole cc0_stg5_0 _).symm.trans (funext fun y => ?_)
  refine View.read_writes_apply_of_pieces (v := oM.view) f (outAt m c) _ ?_ y ?_
  · intro p hp x
    simp only [List.mem_cons, List.not_mem_nil, or_false] at hp
    rcases hp with rfl | rfl | rfl | rfl <;> exact outAt_rect m c _ _ x
  · have hm : ∀ (b : Bool) (j : Fin 2), (y 0 : ℕ) = b.toNat → (y 1 : ℕ) / 128 = j.val → y ∈ (oRect b j).set := by
      intro b j hb hj
      rw [Rect.mem_set_unit]
      intro a
      fin_cases a
      · show b.toNat ≤ (y 0 : ℕ) ∧ (y 0 : ℕ) < b.toNat + 1; omega
      · show 128 * j.val ≤ (y 1 : ℕ) ∧ (y 1 : ℕ) < 128 * j.val + 128; omega
      · have : (y 2 : ℕ) < 768 := (y 2).isLt
        show 0 ≤ (y 2 : ℕ) ∧ (y 2 : ℕ) < 0 + 768; omega
    have h0 : (y 0 : ℕ) < 2 := (y 0).isLt
    have h1 : (y 1 : ℕ) < 256 := (y 1).isLt
    by_cases hb : (y 0 : ℕ) = 0 <;> by_cases hj : (y 1 : ℕ) / 128 = 0
    · exact ⟨⟨oRect false 0, outPiece m c false 0⟩, by simp, hm false 0 hb hj⟩
    · exact ⟨⟨oRect false 1, outPiece m c false 1⟩, by simp, hm false 1 hb (by show _ = 1; omega)⟩
    · exact ⟨⟨oRect true 0, outPiece m c true 0⟩, by simp, hm true 0 (by show _ = 1; omega) hj⟩
    · exact ⟨⟨oRect true 1, outPiece m c true 1⟩, by simp, hm true 1 (by show _ = 1; omega) (by show _ = 1; omega)⟩

/-! ## The pipeline's proof data -/

/-- The ghost state a device starts from: the shared records, its barrier cell's position and its two barrier tokens, each
    transfer's positions and tokens. -/
def ghost (K : Dev nD × CI → ℕ) (c : Dev nD) : sProp 𝕄 :=
  iprop(records m K
    ∗ (atPos ER (barCell c) 0 ∅ 0 ∗ dutyTok ER (barCell (p1 c)) 0 false ∗ dutyTok ER (barCell (p2 c)) 0 true)
    ∗ bigSep Finset.univ fun k : Fin 8 => tk c k)

/-- With the credits of its cells and the level facts. -/
def start (c : Dev nD) : sProp 𝕄 :=
  iprop((∃ K, ghost m K c) ∗ cred (tallyAt (barCell c) () 2) ∗ (bigSep Finset.univ fun k : Fin 8 => cred (tallyAt (recvCell c k) () N)) ∗ levAts L lv)

def Φ₀ (c : Dev nD) : sProp 𝕄 := iprop(start m c ∗ (∃ f, wholePts c false f) ∗ (∃ f, wholePts c true f))
/-- After the body: the exchange buffers whole again, every cell closed. -/
def Φ₁ (c : Dev nD) : sProp 𝕄 :=
  iprop((∃ f, wholePts c false f) ∗ (∃ f, wholePts c true f) ∗ semVal (barCell c) 0 ∗ bigSep Finset.univ fun k : Fin 8 => xe c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m c
    | ⟨1, _⟩ => stgWq m c
    | ⟨2, _⟩ => stgWo m c
    | ⟨3, _⟩ => stgWk m c
    | ⟨4, _⟩ => stgWv m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz2 : (![0, 0] : Fin 2 → Nat) = fun _ => 0 := funext fun a => by fin_cases a <;> rfl

theorem fin8_sep (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem finRange8 : List.finRange 8 = [0, 1, 2, 3, 4, 5, 6, 7] := by decide

/-! ## A transfer's payloads as pieces -/

theorem land_of (c : Dev nD) (k : Fin 8) {b : Bool} {s : Fin 4} {j : Fin 2} (hb : buf k = b) (hs : dst k = s) (hj : hf k = j) :
    iprop(∃ V, piece (F := F) c b s j V) ⊢ landing c k := by subst hb hs hj; exact Entails.of_eq rfl
theorem sent_of (c : Dev nD) (k : Fin 8) {b : Bool} {s : Fin 4} {j : Fin 2} {V : PieceC F} (hb : buf k = b) (hs : src k = s) (hj : hf k = j)
    (hV : val m k c = V) : piece c b s j V ⊢ sendPay m c k := by subst hb hs hj hV; exact Entails.of_eq rfl
theorem of_sent (c : Dev nD) (k : Fin 8) {b : Bool} {s : Fin 4} {j : Fin 2} {V : PieceC F} (hb : buf k = b) (hs : src k = s) (hj : hf k = j)
    (hV : val m k c = V) : sendPay m c k ⊢ piece c b s j V := by subst hb hs hj hV; exact Entails.of_eq rfl
theorem of_recv (c : Dev nD) (k : Fin 8) {b : Bool} {s : Fin 4} {j : Fin 2} {V : PieceC F} (hb : buf k = b) (hs : dst k = s) (hj : hf k = j)
    (hV : val m k (peer k c) = V) : recvPay m c k ⊢ piece c b s j V := by subst hb hs hj hV; exact Entails.of_eq rfl

/-! ## The loads of the inputs -/

/-- The load of a rectangle of a staging buffer, by what it reads there. -/
theorem wp_load_stg (c : Dev nD) {s : Shape} {e : EltTy} (M : Memref sig .tc .vmem s e) {r : LoadRect s} (f : Buf (Elt F) (M.view.loc (c : Thread nD τ)))
    (V : r.shape.Idx → Elt F e) (h : M.view.readAt (Elt F) r f = V) {hl : M.view.LoadsAt r}
    {α : Type} {Q : α → sProp 𝕄} {kk : (r.shape.Idx → Elt F e) → Prog (TpuEff nD τ sig (Elt F) Λ₀ .tc) α} :
    iprop(M.view.loc (c : Thread nD τ) ↦{fullShare} f)
      ⊢ iprop((iprop(M.view.loc (c : Thread nD τ) ↦{fullShare} f) -∗ wp frame (wpE (defs₀ (F := F)) 𝒱₀ (c : Thread nD τ) none) Set.univ (kk V) Q)
          -∗ wp frame (wpE (defs₀ (F := F)) 𝒱₀ (c : Thread nD τ) none) Set.univ (.op (.load M r hl) kk) Q) := by
  subst h
  exact wp_load 𝒱₀ (c : Thread nD τ) none Set.univ (m := M) (Finset.subset_univ _)

/-- The first batch's text is `partOf` of its rows, and so is the second's. -/
theorem part_first (c : Dev nD) :
    k0_pay19 (k0_pay5 (stgWo m c)) (k0_pay7 (stgWq m c) (xb m c false)) (k0_pay8 (stgWk m c) (xb m c false)) (k0_pay9 (stgWv m c) (xb m c false))
      (k0_pay10 (stgWq m c) (stgWk m c) (stgWv m c) (xb m c false))
      (k0_pay13 (k0_pay9 (stgWv m c) (xb m c false)) (k0_pay11 (stgWq m c) (xb m c false)) (k0_pay12 (stgWk m c) (xb m c false)))
      (k0_pay14 (k0_pay7 (stgWq m c) (xb m c false)) (k0_pay8 (stgWk m c) (xb m c false)) (k0_pay9 (stgWv m c) (xb m c false)))
      (k0_pay15 (k0_pay7 (stgWq m c) (xb m c false)) (k0_pay8 (stgWk m c) (xb m c false)) (k0_pay9 (stgWv m c) (xb m c false)))
      (k0_pay16 (k0_pay7 (stgWq m c) (xb m c false)) (k0_pay8 (stgWk m c) (xb m c false)) (k0_pay9 (stgWv m c) (xb m c false)))
      (k0_pay17 (k0_pay7 (stgWq m c) (xb m c false))) (k0_pay18 (k0_pay8 (stgWk m c) (xb m c false))) = part m c false := rfl
theorem part_second (c : Dev nD) :
    k0_pay31 (k0_pay5 (stgWo m c)) (k0_pay21 (k0_pay2 (stgWq m c)) (xb m c true)) (k0_pay22 (k0_pay3 (stgWk m c)) (xb m c true))
      (k0_pay23 (k0_pay4 (stgWv m c)) (xb m c true))
      (k0_pay24 (k0_pay2 (stgWq m c)) (k0_pay3 (stgWk m c)) (k0_pay4 (stgWv m c)) (xb m c true))
      (k0_pay25 (k0_pay2 (stgWq m c)) (k0_pay3 (stgWk m c)) (k0_pay4 (stgWv m c)) (xb m c true))
      (k0_pay26 (k0_pay2 (stgWq m c)) (k0_pay3 (stgWk m c)) (k0_pay4 (stgWv m c)) (xb m c true))
      (k0_pay27 (k0_pay21 (k0_pay2 (stgWq m c)) (xb m c true)) (k0_pay22 (k0_pay3 (stgWk m c)) (xb m c true)) (k0_pay23 (k0_pay4 (stgWv m c)) (xb m c true)))
      (k0_pay28 (k0_pay21 (k0_pay2 (stgWq m c)) (xb m c true)) (k0_pay22 (k0_pay3 (stgWk m c)) (xb m c true)) (k0_pay23 (k0_pay4 (stgWv m c)) (xb m c true)))
      (k0_pay29 (k0_pay21 (k0_pay2 (stgWq m c)) (xb m c true)) (k0_pay22 (k0_pay3 (stgWk m c)) (xb m c true)) (k0_pay23 (k0_pay4 (stgWv m c)) (xb m c true)))
      (k0_pay30 (k0_pay21 (k0_pay2 (stgWq m c)) (xb m c true)) (k0_pay22 (k0_pay3 (stgWk m c)) (xb m c true)) (k0_pay23 (k0_pay4 (stgWv m c)) (xb m c true)))
      = part m c true := partOf_second _ _ _ _ _

/-! ## The sums -/

/-- The loads of a half's own and received piece and the store of their first-round sum. -/
theorem step_combine (c : Dev nD) (b : Bool) (j : Fin 2) (V G : PieceC F) (f : Vec F S1x1x128x768 .bf16 → Vec F S1x1x128x768 .bf16 → Vec F S1x1x128x768 .bf16)
    {hl₀ : (comm b).view.LoadsAt (rct 0 j).toLoadRect} {hl₁ : (comm b).view.LoadsAt (rct 1 j).toLoadRect} {hl₂ : (comm b).view.LoadsAt (rct 2 j).toLoadRect}
    {hx : ((comm b).access (rct 2 j)).Stores Finset.univ}
    {hm : (Finset.univ : Finset (rct 2 j).shape.Idx) = Finset.univ ∨ ∀ a, (rct 2 j).stride a = 1}
    {α : Type} {Q : α → sProp 𝕄} {kk : PUnit → Prog (TpuEff nD τ sig (Elt F) Λ₀ .tc) α} :
    iprop(piece c b 0 j V ∗ piece c b 1 j G ∗ (∃ U, piece c b 2 j U))
      ⊢ iprop((iprop(piece c b 0 j V ∗ piece c b 1 j G ∗ piece c b 2 j (down (f (up V) (up G))))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (comm b) (rct 0 j).toLoadRect hl₀) fun u => .op (.load (comm b) (rct 1 j).toLoadRect hl₁) fun v =>
                .op (.load (comm b) (rct 2 j).toLoadRect hl₂) fun _ => .op (.store (comm b) (rct 2 j) (f u v) Finset.univ hx hm) kk) Q) := by
  iintro ⟨H0, H1, ⟨%U, H2⟩⟩ Hk
  iapply (wp_load_piece c b 0 j V) $$ H0
  iintro H0
  iapply (wp_load_piece c b 1 j G) $$ H1
  iintro H1
  iapply (wp_load_piece c b 2 j U) $$ H2
  iintro H2
  iapply (wp_store_piece c b 2 j (f (up V) (up G))) $$ [H2]
  · iexists U; iexact H2
  iintro H2
  iapply Hk
  isplitl [H0]; · iexact H0
  isplitl [H1] <;> iassumption

/-- The result's staging buffer after the stores `L`, over what it held. -/
def outHas (c : Dev nD) (L : List ((r : Rect S2x256x768) × (r.shape.Idx → Elt F .f32))) : sProp 𝕄 :=
  iprop(∃ f : Buf (Elt F) (oM.view.loc (c : Thread nD τ)), oM.view.loc (c : Thread nD τ) ↦{fullShare} oM.view.writes (Elt F) f L)

/-- The loads of a half's pair sum and the received one and the store of the whole sum to the result. -/
theorem step_result (c : Dev nD) (b : Bool) (j : Fin 2) (V G : PieceC F) (f : Vec F S1x1x128x768 .bf16 → Vec F S1x1x128x768 .bf16 → Vec F S1x128x768 .f32)
    (L : List ((r : Rect S2x256x768) × (r.shape.Idx → Elt F .f32)))
    {hl₂ : (comm b).view.LoadsAt (rct 2 j).toLoadRect} {hl₃ : (comm b).view.LoadsAt (rct 3 j).toLoadRect} {hlo : oM.view.LoadsAt (oRect b j).toLoadRect}
    {hx : (oM.access (oRect b j)).Stores Finset.univ}
    {hm : (Finset.univ : Finset (oRect b j).shape.Idx) = Finset.univ ∨ ∀ a, (oRect b j).stride a = 1}
    {α : Type} {Q : α → sProp 𝕄} {kk : PUnit → Prog (TpuEff nD τ sig (Elt F) Λ₀ .tc) α} :
    iprop(piece c b 2 j V ∗ piece c b 3 j G ∗ outHas c L)
      ⊢ iprop((iprop(piece c b 2 j V ∗ piece c b 3 j G ∗ outHas c (⟨oRect b j, f (up V) (up G)⟩ :: L))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (comm b) (rct 2 j).toLoadRect hl₂) fun u => .op (.load (comm b) (rct 3 j).toLoadRect hl₃) fun v =>
                .op (.load oM (oRect b j).toLoadRect hlo) fun _ => .op (.store oM (oRect b j) (f u v) Finset.univ hx hm) kk) Q) := by
  unfold outHas
  iintro ⟨H2, H3, ⟨%g, Ho⟩⟩ Hk
  iapply (wp_load_piece c b 2 j V) $$ H2
  iintro H2
  iapply (wp_load_piece c b 3 j G) $$ H3
  iintro H3
  iapply (wp_load 𝒱₀ (c : Thread nD τ) none Set.univ (m := oM) (r := (oRect b j).toLoadRect) (Finset.subset_univ _)) $$ Ho
  iintro Ho
  iapply (wp_store 𝒱₀ (c : Thread nD τ) none Set.univ (m := oM) (r := oRect b j) (w := f (up V) (up G)) (Mk := Finset.univ) (Finset.subset_univ _)) $$ Ho
  iintro Ho
  iapply Hk
  isplitl [H2]; · iexact H2
  isplitl [H3]; · iexact H3
  iexists g; iexact Ho

/-- The eight pieces of an exchange buffer, each at some contents, are the buffer whole. -/
theorem join8 (c : Dev nD) (b : Bool) :
    iprop((∃ V, piece (F := F) c b 0 0 V) ∗ (∃ V, piece c b 0 1 V) ∗ (∃ V, piece c b 1 0 V) ∗ (∃ V, piece c b 1 1 V)
      ∗ (∃ V, piece c b 2 0 V) ∗ (∃ V, piece c b 2 1 V) ∗ (∃ V, piece c b 3 0 V) ∗ (∃ V, piece c b 3 1 V)) ⊢ ∃ f, wholePts c b f :=
  (Entails.of_eq (fin42_sep (fun p : Fin 4 × Fin 2 => iprop(∃ V, piece c b p.1 p.2 V))).symm).trans (join c b)

variable (K : Dev nD × CI → ℕ)

def bodyPre (c : Dev nD) : sProp 𝕄 :=
  iprop((ghost m K c ∗ cred (tallyAt (barCell c) () 2) ∗ (bigSep Finset.univ fun k : Fin 8 => cred (tallyAt (recvCell c k) () N)) ∗ levAts L lv
      ∗ (∃ f, wholePts c false f) ∗ (∃ f, wholePts c true f))
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (stgX m c) ∗ stg c cc0_stg1_0 (stgWq m c) ∗ stg c cc0_stg2_0 (stgWo m c)
    ∗ stg c cc0_stg3_0 (stgWk m c) ∗ stg c cc0_stg4_0 (stgWv m c) ∗ stg c cc0_stg5_0 (outAt m c))

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton,
    k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel, k0_part17_skel,
    semSignalWord, semWaitWord, Prog.lift, Prog.bind_op, Prog.bind_ret, Prog.pure_eq_ret, wp_deviceId]
  unfold bodyPre ghost
  iintro ⟨⟨⟨⟨#HR, ⟨HatB, Ht1, Ht2⟩, Htk⟩, HcB, Hcr, #Hlev, Ha, Hb⟩, Ho, ⟨%d0, Hx⟩, ⟨%d1, Hwq⟩, ⟨%d2, Hwo⟩, ⟨%d3, Hwk⟩, ⟨%d4, Hwv⟩, ⟨%d5, Hout⟩⟩, Hk⟩
  icases Hx with ⟨%g0, %hg0, Hx⟩
  icases Hwq with ⟨%g1, %hg1, Hwq⟩
  icases Hwo with ⟨%g2, %hg2, Hwo⟩
  icases Hwk with ⟨%g3, %hg3, Hwk⟩
  icases Hwv with ⟨%g4, %hg4, Hwv⟩
  icases Hout with ⟨%g5, -, Hout⟩
  have e0 : g0 = stgX m c := by rw [hg0]; unfold Dat.before; rw [if_pos (fetch0_0 t0_0)]; rfl
  have e1 : g1 = stgWq m c := by rw [hg1]; unfold Dat.before; rw [if_pos (fetch0_1 t0_0)]; rfl
  have e2 : g2 = stgWo m c := by rw [hg2]; unfold Dat.before; rw [if_pos (fetch0_2 t0_0)]; rfl
  have e3 : g3 = stgWk m c := by rw [hg3]; unfold Dat.before; rw [if_pos (fetch0_3 t0_0)]; rfl
  have e4 : g4 = stgWv m c := by rw [hg4]; unfold Dat.before; rw [if_pos (fetch0_4 t0_0)]; rfl
  clear hg0 hg1 hg2 hg3 hg4
  subst e0 e1 e2 e3 e4
  unfold Dat.owesAt Pipeline.owesWithin
  icases Ho with ⟨%W, %hW, HO⟩
  ihave HO : owesE c (O₀ c) $$ [HO]
  · unfold owesE; iexists W; iexact HO
  ihave Ha' := (cut c false) $$ Ha
  icases Ha' with ⟨Ha0, Ha10, Ha11, Ha20, Ha21, Ha30, Ha31⟩
  ihave Hb' := (cut c true) $$ Hb
  icases Hb' with ⟨Hb0, Hb10, Hb11, Hb20, Hb21, Hb30, Hb31⟩
  ihave Htk' := (Entails.of_eq (fin8_sep _)) $$ Htk
  icases Htk' with ⟨Hk0, Hk1, Hk2, Hk3, Hk4, Hk5, Hk6, Hk7⟩
  ihave Hcr' := (Entails.of_eq (fin8_sep _)) $$ Hcr
  icases Hcr' with ⟨Hc0, Hc1, Hc2, Hc3, Hc4, Hc5, Hc6, Hc7⟩
  -- the weights, and batch 0 of `x`
  iapply (wp_load_stg c (Memref.whole cc0_stg1_0) (stgWq m c) (stgWq m c) (Memref.readAt_unit_zero (Elt F) cc0_stg1_0 hz2 _ _)) $$ Hwq
  iintro Hwq
  iapply (wp_load_stg c (Memref.whole cc0_stg3_0) (stgWk m c) (stgWk m c) (Memref.readAt_unit_zero (Elt F) cc0_stg3_0 hz2 _ _)) $$ Hwk
  iintro Hwk
  iapply (wp_load_stg c (Memref.whole cc0_stg4_0) (stgWv m c) (stgWv m c) (Memref.readAt_unit_zero (Elt F) cc0_stg4_0 hz2 _ _)) $$ Hwv
  iintro Hwv
  iapply (wp_load_stg c (Memref.whole cc0_stg2_0) (stgWo m c) (stgWo m c) (Memref.readAt_unit_zero (Elt F) cc0_stg2_0 hz2 _ _)) $$ Hwo
  iintro Hwo
  iapply (wp_load_stg c (Memref.whole cc0_stg0_0) (stgX m c) (xb m c false) rfl) $$ Hx
  iintro Hx
  -- its partial product to slot 0
  iapply (wp_load_slot0 c false) $$ Ha0
  iintro %w0 Ha0
  rw [part_first m c]
  iapply (wp_store_slot0 c false (part m c false)) $$ Ha0
  iintro ⟨Ha00, Ha01⟩
  -- the barrier
  iapply (step_barrier m K c _ _ (dev1_eq c) (dev2_eq c) rfl) $$ [HatB Ht1 Ht2 HcB HO Ha10 Hb10 Ha31 Hb31 Ha11 Hb11 Ha30 Hb30]
  · isplitr; · iexact HR
    isplitr; · iexact Hlev
    isplitl [HatB Ht1 Ht2 HcB]
    · isplitl [HatB]; · iexact HatB
      isplitl [Ht1]; · iexact Ht1
      isplitl [Ht2] <;> iassumption
    isplitl [HO]; · iexact HO
    isplitl [Ha10 Hb10 Ha31 Hb31]
    · isplitl [Ha10]; · iapply (land_of c 0 rfl rfl rfl); iexact Ha10
      isplitl [Hb10]; · iapply (land_of c 2 rfl rfl rfl); iexact Hb10
      isplitl [Ha31]; · iapply (land_of c 5 rfl rfl rfl); iexact Ha31
      iapply (land_of c 7 rfl rfl rfl); iexact Hb31
    · isplitl [Ha11]; · iapply (land_of c 1 rfl rfl rfl); iexact Ha11
      isplitl [Hb11]; · iapply (land_of c 3 rfl rfl rfl); iexact Hb11
      isplitl [Ha30]; · iapply (land_of c 4 rfl rfl rfl); iexact Ha30
      iapply (land_of c 6 rfl rfl rfl); iexact Hb30
  rw [finRange8]
  unfold barPay
  iintro ⟨HzB, HO, ⟨Hl0, Hl2, Hl5, Hl7⟩, ⟨Hl1, Hl3, Hl4, Hl6⟩⟩
  -- transfers 0 and 1
  iapply (step_send m K c _ 0 (dev3_eq c) [1, 2, 3, 4, 5, 6, 7] rfl rfl rfl rfl) $$ [HO Ha00 Hl0 Hk0 Hc0]
  · isplitr; · iexact HR
    isplitl [Ha00]; · iapply (sent_of m c 0 rfl rfl rfl rfl); iexact Ha00
    isplitl [Hl0]; · iexact Hl0
    isplitl [Hk0 Hc0]
    · unfold xs; isplitl [Hk0] <;> iassumption
    iexact HO
  iintro ⟨Hm0, HO⟩
  iapply (step_send m K c _ 1 (dev4_eq c) [2, 3, 4, 5, 6, 7] rfl rfl rfl rfl) $$ [HO Ha01 Hl1 Hk1 Hc1]
  · isplitr; · iexact HR
    isplitl [Ha01]; · iapply (sent_of m c 1 rfl rfl rfl rfl); iexact Ha01
    isplitl [Hl1]; · iexact Hl1
    isplitl [Hk1 Hc1]
    · unfold xs; isplitl [Hk1] <;> iassumption
    iexact HO
  iintro ⟨Hm1, HO⟩
  -- batch 1 of `x`, its partial product to slot 0
  iapply (wp_load_stg c (Memref.whole cc0_stg0_0) (stgX m c) (xb m c true) rfl) $$ Hx
  iintro Hx
  iapply (wp_load_slot0 c true) $$ Hb0
  iintro %w1 Hb0
  rw [part_second m c]
  iapply (wp_store_slot0 c true (part m c true)) $$ Hb0
  iintro ⟨Hb00, Hb01⟩
  -- transfers 2 and 3
  iapply (step_send m K c _ 2 (dev5_eq c) [3, 4, 5, 6, 7] rfl rfl rfl rfl) $$ [HO Hb00 Hl2 Hk2 Hc2]
  · isplitr; · iexact HR
    isplitl [Hb00]; · iapply (sent_of m c 2 rfl rfl rfl rfl); iexact Hb00
    isplitl [Hl2]; · iexact Hl2
    isplitl [Hk2 Hc2]
    · unfold xs; isplitl [Hk2] <;> iassumption
    iexact HO
  iintro ⟨Hm2, HO⟩
  iapply (step_send m K c _ 3 (dev6_eq c) [4, 5, 6, 7] rfl rfl rfl rfl) $$ [HO Hb01 Hl3 Hk3 Hc3]
  · isplitr; · iexact HR
    isplitl [Hb01]; · iapply (sent_of m c 3 rfl rfl rfl rfl); iexact Hb01
    isplitl [Hl3]; · iexact Hl3
    isplitl [Hk3 Hc3]
    · unfold xs; isplitl [Hk3] <;> iassumption
    iexact HO
  iintro ⟨Hm3, HO⟩
  -- transfer 0 awaited, its half summed, the sum sent
  iapply (step_wait m K c 0 [4, 5, 6, 7] (by decide) rfl rfl) $$ [HO Hm0]
  · isplitr; · iexact HR
    isplitr; · iexact Hlev
    isplitl [Hm0] <;> iassumption
  iintro ⟨He0, HO, Hs, Hr⟩
  ihave Ha00 := (of_sent m c 0 (V := own1 m c false 0) rfl rfl rfl rfl) $$ Hs
  ihave Ha10 := (of_recv m c 0 (V := own1 m (peer (tr1 false 0) c) false 0) rfl rfl rfl rfl) $$ Hr
  iapply (step_combine c false 0 (own1 m c false 0) (own1 m (peer (tr1 false 0) c) false 0) k0_pay34) $$ [Ha00 Ha10 Ha20]
  · isplitl [Ha00]; · iexact Ha00
    isplitl [Ha10]; · iexact Ha10
    iexact Ha20
  iintro ⟨Ha00, Ha10, Ha20⟩
  iapply (step_send m K c _ 4 (dev7_eq c) [5, 6, 7] rfl rfl rfl rfl) $$ [HO Ha20 Hl4 Hk4 Hc4]
  · isplitr; · iexact HR
    isplitl [Ha20]; · iapply (sent_of m c 4 rfl rfl rfl rfl); iexact Ha20
    isplitl [Hl4]; · iexact Hl4
    isplitl [Hk4 Hc4]
    · unfold xs; isplitl [Hk4] <;> iassumption
    iexact HO
  iintro ⟨Hm4, HO⟩
  -- transfer 1 awaited, its half summed, the sum sent
  iapply (step_wait m K c 1 [5, 6, 7] (by decide) rfl rfl) $$ [HO Hm1]
  · isplitr; · iexact HR
    isplitr; · iexact Hlev
    isplitl [Hm1] <;> iassumption
  iintro ⟨He1, HO, Hs, Hr⟩
  ihave Ha01 := (of_sent m c 1 (V := own1 m c false 1) rfl rfl rfl rfl) $$ Hs
  ihave Ha11 := (of_recv m c 1 (V := own1 m (peer (tr1 false 1) c) false 1) rfl rfl rfl rfl) $$ Hr
  iapply (step_combine c false 1 (own1 m c false 1) (own1 m (peer (tr1 false 1) c) false 1) k0_pay34) $$ [Ha01 Ha11 Ha21]
  · isplitl [Ha01]; · iexact Ha01
    isplitl [Ha11]; · iexact Ha11
    iexact Ha21
  iintro ⟨Ha01, Ha11, Ha21⟩
  iapply (step_send m K c _ 5 (dev8_eq c) [6, 7] rfl rfl rfl rfl) $$ [HO Ha21 Hl5 Hk5 Hc5]
  · isplitr; · iexact HR
    isplitl [Ha21]; · iapply (sent_of m c 5 rfl rfl rfl rfl); iexact Ha21
    isplitl [Hl5]; · iexact Hl5
    isplitl [Hk5 Hc5]
    · unfold xs; isplitl [Hk5] <;> iassumption
    iexact HO
  iintro ⟨Hm5, HO⟩
  -- transfer 2 awaited, its half summed, the sum sent
  iapply (step_wait m K c 2 [6, 7] (by decide) rfl rfl) $$ [HO Hm2]
  · isplitr; · iexact HR
    isplitr; · iexact Hlev
    isplitl [Hm2] <;> iassumption
  iintro ⟨He2, HO, Hs, Hr⟩
  ihave Hb00 := (of_sent m c 2 (V := own1 m c true 0) rfl rfl rfl rfl) $$ Hs
  ihave Hb10 := (of_recv m c 2 (V := own1 m (peer (tr1 true 0) c) true 0) rfl rfl rfl rfl) $$ Hr
  iapply (step_combine c true 0 (own1 m c true 0) (own1 m (peer (tr1 true 0) c) true 0) k0_pay34) $$ [Hb00 Hb10 Hb20]
  · isplitl [Hb00]; · iexact Hb00
    isplitl [Hb10]; · iexact Hb10
    iexact Hb20
  iintro ⟨Hb00, Hb10, Hb20⟩
  iapply (step_send m K c _ 6 (dev9_eq c) [7] rfl rfl rfl rfl) $$ [HO Hb20 Hl6 Hk6 Hc6]
  · isplitr; · iexact HR
    isplitl [Hb20]; · iapply (sent_of m c 6 rfl rfl rfl rfl); iexact Hb20
    isplitl [Hl6]; · iexact Hl6
    isplitl [Hk6 Hc6]
    · unfold xs; isplitl [Hk6] <;> iassumption
    iexact HO
  iintro ⟨Hm6, HO⟩
  -- transfer 3 awaited, its half summed, the sum sent
  iapply (step_wait m K c 3 [7] (by decide) rfl rfl) $$ [HO Hm3]
  · isplitr; · iexact HR
    isplitr; · iexact Hlev
    isplitl [Hm3] <;> iassumption
  iintro ⟨He3, HO, Hs, Hr⟩
  ihave Hb01 := (of_sent m c 3 (V := own1 m c true 1) rfl rfl rfl rfl) $$ Hs
  ihave Hb11 := (of_recv m c 3 (V := own1 m (peer (tr1 true 1) c) true 1) rfl rfl rfl rfl) $$ Hr
  iapply (step_combine c true 1 (own1 m c true 1) (own1 m (peer (tr1 true 1) c) true 1) k0_pay34) $$ [Hb01 Hb11 Hb21]
  · isplitl [Hb01]; · iexact Hb01
    isplitl [Hb11]; · iexact Hb11
    iexact Hb21
  iintro ⟨Hb01, Hb11, Hb21⟩
  iapply (step_send m K c _ 7 (dev10_eq c) [] rfl rfl rfl rfl) $$ [HO Hb21 Hl7 Hk7 Hc7]
  · isplitr; · iexact HR
    isplitl [Hb21]; · iapply (sent_of m c 7 rfl rfl rfl rfl); iexact Hb21
    isplitl [Hl7]; · iexact Hl7
    isplitl [Hk7 Hc7]
    · unfold xs; isplitl [Hk7] <;> iassumption
    iexact HO
  iintro ⟨Hm7, HO⟩
  ihave Hout : outHas c ([] : List ((r : Rect S2x256x768) × (r.shape.Idx → Elt F .f32))) $$ [Hout]
  · unfold outHas; iexists g5; iexact Hout
  -- transfer 4 awaited, the whole sum to the result
  iapply (step_wait m K c 4 [] (by decide) rfl rfl) $$ [HO Hm4]
  · isplitr; · iexact HR
    isplitr; · iexact Hlev
    isplitl [Hm4] <;> iassumption
  iintro ⟨He4, HO, Hs, Hr⟩
  ihave Ha20 := (of_sent m c 4 (V := own2 m c false 0) rfl rfl rfl rfl) $$ Hs
  ihave Ha30 := (of_recv m c 4 (V := own2 m (peer (tr2 false 0) c) false 0) rfl rfl rfl rfl) $$ Hr
  iapply (step_result c false 0 (own2 m c false 0) (own2 m (peer (tr2 false 0) c) false 0) k0_pay38 _) $$ [Ha20 Ha30 Hout]
  · isplitl [Ha20]; · iexact Ha20
    isplitl [Ha30]; · iexact Ha30
    iexact Hout
  iintro ⟨Ha20, Ha30, Hout⟩
  -- transfer 5 awaited, the whole sum to the result
  iapply (step_wait m K c 5 [] (by decide) rfl rfl) $$ [HO Hm5]
  · isplitr; · iexact HR
    isplitr; · iexact Hlev
    isplitl [Hm5] <;> iassumption
  iintro ⟨He5, HO, Hs, Hr⟩
  ihave Ha21 := (of_sent m c 5 (V := own2 m c false 1) rfl rfl rfl rfl) $$ Hs
  ihave Ha31 := (of_recv m c 5 (V := own2 m (peer (tr2 false 1) c) false 1) rfl rfl rfl rfl) $$ Hr
  iapply (step_result c false 1 (own2 m c false 1) (own2 m (peer (tr2 false 1) c) false 1) k0_pay38 _) $$ [Ha21 Ha31 Hout]
  · isplitl [Ha21]; · iexact Ha21
    isplitl [Ha31]; · iexact Ha31
    iexact Hout
  iintro ⟨Ha21, Ha31, Hout⟩
  -- transfer 6 awaited, the whole sum to the result
  iapply (step_wait m K c 6 [] (by decide) rfl rfl) $$ [HO Hm6]
  · isplitr; · iexact HR
    isplitr; · iexact Hlev
    isplitl [Hm6] <;> iassumption
  iintro ⟨He6, HO, Hs, Hr⟩
  ihave Hb20 := (of_sent m c 6 (V := own2 m c true 0) rfl rfl rfl rfl) $$ Hs
  ihave Hb30 := (of_recv m c 6 (V := own2 m (peer (tr2 true 0) c) true 0) rfl rfl rfl rfl) $$ Hr
  iapply (step_result c true 0 (own2 m c true 0) (own2 m (peer (tr2 true 0) c) true 0) k0_pay38 _) $$ [Hb20 Hb30 Hout]
  · isplitl [Hb20]; · iexact Hb20
    isplitl [Hb30]; · iexact Hb30
    iexact Hout
  iintro ⟨Hb20, Hb30, Hout⟩
  -- transfer 7 awaited, the whole sum to the result
  iapply (step_wait m K c 7 [] (by decide) rfl rfl) $$ [HO Hm7]
  · isplitr; · iexact HR
    isplitr; · iexact Hlev
    isplitl [Hm7] <;> iassumption
  iintro ⟨He7, HO, Hs, Hr⟩
  ihave Hb21 := (of_sent m c 7 (V := own2 m c true 1) rfl rfl rfl rfl) $$ Hs
  ihave Hb31 := (of_recv m c 7 (V := own2 m (peer (tr2 true 1) c) true 1) rfl rfl rfl rfl) $$ Hr
  iapply (step_result c true 1 (own2 m c true 1) (own2 m (peer (tr2 true 1) c) true 1) k0_pay38 _) $$ [Hb21 Hb31 Hout]
  · isplitl [Hb21]; · iexact Hb21
    isplitl [Hb31]; · iexact Hb31
    iexact Hout
  iintro ⟨Hb21, Hb31, Hout⟩
  rw [wp_ret]
  imodintro
  iapply Hk
  unfold bodyPost Φ₁
  isplitr [HO Hx Hwq Hwo Hwk Hwv Hout]
  · isplitl [Ha00 Ha01 Ha10 Ha11 Ha20 Ha21 Ha30 Ha31]
    · iapply (join8 c false)
      isplitl [Ha00]; · iexists _; iexact Ha00
      isplitl [Ha01]; · iexists _; iexact Ha01
      isplitl [Ha10]; · iexists _; iexact Ha10
      isplitl [Ha11]; · iexists _; iexact Ha11
      isplitl [Ha20]; · iexists _; iexact Ha20
      isplitl [Ha21]; · iexists _; iexact Ha21
      isplitl [Ha30]; · iexists _; iexact Ha30
      iexists _; iexact Ha31
    isplitl [Hb00 Hb01 Hb10 Hb11 Hb20 Hb21 Hb30 Hb31]
    · iapply (join8 c true)
      isplitl [Hb00]; · iexists _; iexact Hb00
      isplitl [Hb01]; · iexists _; iexact Hb01
      isplitl [Hb10]; · iexists _; iexact Hb10
      isplitl [Hb11]; · iexists _; iexact Hb11
      isplitl [Hb20]; · iexists _; iexact Hb20
      isplitl [Hb21]; · iexists _; iexact Hb21
      isplitl [Hb30]; · iexists _; iexact Hb30
      iexists _; iexact Hb31
    isplitl [HzB]; · iexact HzB
    rw [fin8_sep]
    isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [HO]
  · unfold Dat.owesAt Pipeline.owesWithin owesE
    icases HO with ⟨%W', HO⟩
    iexists W'; isplitr
    · ipureintro; exact fun _ _ => Or.inl trivial
    iexact HO
  isplitl [Hx]; · iexists _; isplitr; (· ipureintro; rfl); iexact Hx
  isplitl [Hwq]; · iexists _; isplitr; (· ipureintro; rfl); iexact Hwq
  isplitl [Hwo]; · iexists _; isplitr; (· ipureintro; rfl); iexact Hwo
  isplitl [Hwk]; · iexists _; isplitr; (· ipureintro; rfl); iexact Hwk
  isplitl [Hwv]; · iexists _; isplitr; (· ipureintro; rfl); iexact Hwv
  unfold outHas
  icases Hout with ⟨%g, Hout⟩
  iexists _; isplitr
  · ipureintro; exact out_written m c g
  iexact Hout

def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3) (fun _ => bodyPost m ρ c)
  unfold bodyPre' Φ₀ start
  iintro ⟨⟨⟨⟨%K, Hg⟩, H1, H2, H3⟩, Ha, Hb⟩, Hrest⟩
  iapply (sound_body m ρ K c fun _ => bodyPost m ρ c)
  unfold bodyPre
  isplitr []
  · isplitl [Hg H1 H2 H3 Ha Hb]
    · isplitl [Hg]; · iexact Hg
      isplitl [H1]; · iexact H1
      isplitl [H2]; · iexact H2
      isplitl [H3]; · iexact H3
      isplitl [Ha] <;> iassumption
    iexact Hrest
  · iintro H; iexact H

end Cert.Exch

end
-- ==== Proof.Launch.lean ====
/-
# The launch

The cells and the duty tokens minted for the exchange, dealt to the devices that wait on them and pay them, the credits
each device's peers will raise, and the run of `@main`: every execution ends with the result `outAt` on every device.
-/
module

public import proofs.«01_k».proof.Proof.Body
public import Idealize.ShloMosaic.Lib.Pipeline.CollectiveSegs

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over a device's cells -/

theorem bigSep_two (Φ : Bool → sProp 𝕄) : bigSep Finset.univ Φ = iprop(Φ false ∗ Φ true) :=
  bigSep_univ_eq_bigSepL [false, true] (by decide) (by decide) Φ

theorem bigSep_xfer (Φ : Bool × Fin 8 → sProp 𝕄) :
    bigSep Finset.univ Φ = iprop((bigSep Finset.univ fun k : Fin 8 => Φ (false, k)) ∗ bigSep Finset.univ fun k : Fin 8 => Φ (true, k)) := by
  rw [bigSep_univ_prod, bigSep_two]

theorem bigSep_cells (Φ : CI → sProp 𝕄) :
    bigSep Finset.univ Φ = iprop(Φ none ∗ (bigSep Finset.univ fun k : Fin 8 => Φ (some (false, k))) ∗ bigSep Finset.univ fun k : Fin 8 => Φ (some (true, k))) := by
  rw [bigSep_univ_equiv (Equiv.optionEquivSumPUnit.{0} (Bool × Fin 8)).symm Φ, bigSep_univ_sum, bigSep_xfer, bigSep_univ_of_subsingleton PUnit.unit]
  exact equiv_iff.mp ⟨BI.sep_comm, BI.sep_comm⟩

/-! ## Cells and tokens -/

theorem ownSemFacts : Pipeline.OwnSemFacts cfg0.spec osem := by decide +kernel

theorem share_eq (c : Dev nD) (w : Fin cfg0.W) : (dats m ρ 0 c).share w = fullShare := by unfold Dat.share; split <;> rfl

def exCells : Finset (GSem nD τ sig) := Finset.univ.map ⟨kcell, kcell_injective⟩

/-- A device's own cells' duty tokens as minted: its barrier's two, each transfer cell's one. -/
abbrev TI : Type := Bool ⊕ (Bool × Fin 8)
abbrev tokOf (cj : Dev nD × TI) : GSem nD τ sig × ℕ × Bool := match cj.2 with
  | .inl d => (barCell cj.1, 0, d) | .inr x => (kcell (cj.1, some x), 0, false)
theorem tokOf_injective : Function.Injective (tokOf : Dev nD × TI → GSem nD τ sig × ℕ × Bool) := by
  rintro ⟨c, d | x⟩ ⟨c', d' | x'⟩ h
  · have h1 := kcell_injective (congrArg Prod.fst h)
    have h2 : d = d' := congrArg (fun t : GSem nD τ sig × ℕ × Bool => t.2.2) h
    have h3 : c = c' := congrArg Prod.fst h1
    rw [h3, h2]
  · exact absurd (congrArg Prod.snd (kcell_injective (congrArg Prod.fst h))) (fun h' => by cases h')
  · exact absurd (congrArg Prod.snd (kcell_injective (congrArg Prod.fst h))) (fun h' => by cases h')
  · have h1 := kcell_injective (congrArg Prod.fst h)
    have h3 : c = c' := congrArg Prod.fst h1
    rw [h3, Option.some.inj (congrArg Prod.snd h1)]
def exToks : Finset (GSem nD τ sig × ℕ × Bool) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((dutyTok ER (barCell c) 0 false ∗ dutyTok ER (barCell c) 0 true)
    ∗ (bigSep Finset.univ fun k : Fin 8 => dutyTok ER (sendCell c k) 0 false) ∗ bigSep Finset.univ fun k : Fin 8 => dutyTok ER (recvCell c k) 0 false)

/-- What the launch element deals device `c`. -/
def G (c : Dev nD) : sProp 𝕄 :=
  iprop((bigSep Finset.univ fun k : CI => roundState ER (exRd m) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m K c)

theorem fund_cells : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_two, bigSep_xfer]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfers' semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (sendCell c k) 0) ∗ bigSep Finset.univ fun k : Fin 8 => semVal (recvCell c k) 0) := by
  unfold Pipeline.ownSems0; rw [bigSep_xfer]
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays: its peers' barrier duties, its own send duties, its peers' receive duties. -/
def payToks (c : Dev nD) : sProp 𝕄 :=
  iprop((dutyTok ER (barCell (p1 c)) 0 false ∗ dutyTok ER (barCell (p2 c)) 0 true)
    ∗ (bigSep Finset.univ fun k : Fin 8 => dutyTok ER (sendCell c k) 0 false) ∗ bigSep Finset.univ fun k : Fin 8 => dutyTok ER (recvCell (peer k c) k) 0 false)
def linear (c : Dev nD) : sProp 𝕄 := iprop((bigSep Finset.univ fun k : CI => atPos ER (kcell (c, k)) 0 ∅ 0) ∗ payToks c)

theorem ghost_intro (K : Dev nD × CI → ℕ) (c : Dev nD) : iprop(records m K ∗ linear c) ⊢ G' m c := by
  unfold linear payToks G' ghost tk
  rw [bigSep_cells]
  simp only [bigSep_sep']
  iintro ⟨#HR, ⟨HaB, HaS, HaV⟩, ⟨HtB1, HtB2⟩, HtS, HtV⟩
  iexists K
  isplitr; · iexact HR
  isplitl [HaB HtB1 HtB2]
  · isplitl [HaB]; · iexact HaB
    isplitl [HtB1] <;> iassumption
  isplitl [HaS HaV]
  · isplitl [HaS] <;> iassumption
  isplitl [HtS] <;> iassumption

/-- The receive tokens of transfer by transfer, each to the peer that pays it. -/
theorem recv_around :
    (bigSep Finset.univ fun c : Dev nD => bigSep Finset.univ fun k : Fin 8 => (dutyTok ER (recvCell c k) 0 false : sProp 𝕄))
      = bigSep Finset.univ fun c : Dev nD => bigSep Finset.univ fun k : Fin 8 => (dutyTok ER (recvCell (peer k c) k) 0 false : sProp 𝕄) := by
  rw [BI.bigSep_univ_comm, BI.bigSep_univ_comm (fun (c : Dev nD) (k : Fin 8) => (dutyTok ER (recvCell (peer k c) k) 0 false : sProp 𝕄))]
  exact bigSep_congr fun k _ => bigSep_univ_equiv (swap k) (fun c : Dev nD => (dutyTok ER (recvCell c k) 0 false : sProp 𝕄))

/-- The minted tokens dealt to the devices that pay them. -/
theorem toks_around : (bigSep Finset.univ fun c : Dev nD => (toks c : sProp 𝕄)) ⊢ bigSep Finset.univ fun c : Dev nD => payToks c := by
  unfold toks payToks
  simp only [bigSep_sep']
  rw [bigSep_univ_equiv swap1 (fun c : Dev nD => (dutyTok ER (barCell c) 0 false : sProp 𝕄)),
    bigSep_univ_equiv swap2 (fun c : Dev nD => (dutyTok ER (barCell c) 0 true : sProp 𝕄)), recv_around]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (exRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep']
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owed_none (d c : Dev nD) (ks : List (Fin 8)) : owed d ks (barCell c) () = 0 := by
  induction ks with
  | nil => rfl
  | cons k ks ih =>
    unfold owed
    rw [Pi.add_apply, Finsupp.add_apply, ih, tallyAt_apply, if_neg fun h => by
      have := congrArg Prod.snd (kcell_injective h.1); cases this]

theorem owed_recv_of (d c : Dev nD) (k : Fin 8) (ks : List (Fin 8)) (hn : ks.Nodup) :
    owed d ks (recvCell c k) () = if k ∈ ks ∧ d = peer k c then N else 0 := by
  induction ks with
  | nil => rw [if_neg fun h => by cases h.1]; rfl
  | cons k' ks ih =>
    have hk := List.nodup_cons.mp hn
    unfold owed
    rw [Pi.add_apply, Finsupp.add_apply, ih hk.2, tallyAt_apply]
    by_cases hkk : k = k'
    · subst hkk
      rw [if_neg fun h => hk.1 h.1, zero_add]
      by_cases hd : d = peer k c
      · subst hd
        rw [peer_peer, if_pos ⟨rfl, rfl⟩, if_pos ⟨List.mem_cons_self, rfl⟩]
      · rw [if_neg fun h => hd (by have := congrArg Prod.fst (kcell_injective h.1); rw [show c = peer k d from this, peer_peer]), if_neg fun h => hd h.2]
    · have hne : ¬(recvCell c k = recvCell (peer k' d) k' ∧ () = ()) := fun h =>
        hkk (congrArg Prod.snd (Option.some.inj (congrArg Prod.snd (kcell_injective h.1))))
      rw [if_neg hne, add_zero]
      refine if_congr ⟨fun h => ⟨List.mem_cons_of_mem _ h.1, h.2⟩, fun h => ⟨(List.mem_cons.mp h.1).resolve_left hkk, h.2⟩⟩ rfl rfl

theorem owed_bar (d c : Dev nD) : O₀ d (barCell c) () = (if d = p2 c then 1 else 0) + (if d = p1 c then 1 else 0) := by
  unfold O₀ O₁
  rw [Pi.add_apply, Finsupp.add_apply, Pi.add_apply, Finsupp.add_apply, owed_none, zero_add, tallyAt_apply, tallyAt_apply]
  congr 1
  · by_cases h : d = p2 c
    · subst h; rw [p2_p2, if_pos ⟨rfl, rfl⟩, if_pos rfl]
    · rw [if_neg fun h' => h (by have := congrArg Prod.fst (kcell_injective h'.1); rw [show c = p2 d from this, p2_p2]), if_neg h]
  · by_cases h : d = p1 c
    · subst h; rw [p1_p1, if_pos ⟨rfl, rfl⟩, if_pos rfl]
    · rw [if_neg fun h' => h (by have := congrArg Prod.fst (kcell_injective h'.1); rw [show c = p1 d from this, p1_p1]), if_neg h]

theorem owed_recv (d c : Dev nD) (k : Fin 8) : O₀ d (recvCell c k) () = if d = peer k c then N else 0 := by
  have hb (c' : Dev nD) : ¬(recvCell c k = barCell c' ∧ () = ()) := fun h => by
    have := congrArg Prod.snd (kcell_injective h.1); cases this
  unfold O₀ O₁
  rw [Pi.add_apply, Finsupp.add_apply, Pi.add_apply, Finsupp.add_apply, owed_recv_of d c k _ (List.nodup_finRange 8), tallyAt_apply, tallyAt_apply,
    if_neg (hb _), if_neg (hb _), add_zero, add_zero]
  exact if_congr ⟨fun h => h.2, fun h => ⟨List.mem_finRange k, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (k : Fin 8) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => N,
    if_pos (Finset.mem_univ _)]

theorem creds (c : Dev nD) :
    (Pipeline.launchCred O₀ c : sProp 𝕄)
      ⊢ iprop(cred (tallyAt (barCell c) () 2) ∗ bigSep Finset.univ fun k : Fin 8 => cred (tallyAt (recvCell c k) () N)) := by
  unfold Pipeline.launchCred
  refine (bigSep_subset (Finset.subset_univ (Finset.univ.map ⟨csem, csem_injective⟩))).trans ?_
  rw [bigSep_map, bigSep_cells]
  refine BIClass.sep_mono (Entails.of_eq (congrArg cred (launch_bar c))) ?_
  refine Entails.trans sep_elim_right ?_
  exact bigSep_mono fun k _ => Entails.of_eq (congrArg cred (launch_recv c k))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Ha, Hb⟩
  isplitl [Hs]; · iexact Hs
  isplitl [Ha] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ xe
  simp only [bigSep_sep']
  iintro ⟨Ha, Hb, HzB, HzS, HzV⟩
  isplitl [HzB]; · iexact HzB
  isplitl [HzS HzV]
  · isplitl [HzS] <;> iassumption
  isplitl [Ha] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution of @main ends, each
    device's result array at the computed contents, its arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held; -/
theorem finalA_0 (c : Dev nD) : finalA m ρ c (0 : Fin 6) = m ((c : Thread nD τ).loc main_arg0) := (dats m ρ 0 c).arrAt_in (0 : Fin 6) rfl _
theorem finalA_1 (c : Dev nD) : finalA m ρ c (1 : Fin 6) = m ((c : Thread nD τ).loc main_arg1) := (dats m ρ 0 c).arrAt_in (1 : Fin 6) rfl _
theorem finalA_2 (c : Dev nD) : finalA m ρ c (2 : Fin 6) = m ((c : Thread nD τ).loc main_arg4) := (dats m ρ 0 c).arrAt_in (2 : Fin 6) rfl _
theorem finalA_3 (c : Dev nD) : finalA m ρ c (3 : Fin 6) = m ((c : Thread nD τ).loc main_arg2) := (dats m ρ 0 c).arrAt_in (3 : Fin 6) rfl _
theorem finalA_4 (c : Dev nD) : finalA m ρ c (4 : Fin 6) = m ((c : Thread nD τ).loc main_arg3) := (dats m ρ 0 c).arrAt_in (4 : Fin 6) rfl _

end Cert.Exch

end
-- ==== Proof.Frames.lean ====
/-
# The frames

The run of the launch read at the argument arrays and at the semaphore counters, for the kernel's two readings of its
floats, and the reference's run read the same way; and the result array of every device after the run.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.Exch

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## A staged input is its whole array -/

theorem stgX_eq (c : Dev nD) : stgX m c = m ((c : Thread nD τ).loc main_arg0) :=
  Memref.read_access_unit_zero (Elt F) main_arg0 (funext fun a => by fin_cases a <;> decide) (fun a => by fin_cases a <;> decide) _

theorem stgWq_eq (c : Dev nD) : stgWq m c = m ((c : Thread nD τ).loc main_arg1) :=
  Memref.read_access_unit_zero (Elt F) main_arg1 (funext fun a => by fin_cases a <;> decide) (fun a => by fin_cases a <;> decide) _

theorem stgWk_eq (c : Dev nD) : stgWk m c = m ((c : Thread nD τ).loc main_arg2) :=
  Memref.read_access_unit_zero (Elt F) main_arg2 (funext fun a => by fin_cases a <;> decide) (fun a => by fin_cases a <;> decide) _

theorem stgWv_eq (c : Dev nD) : stgWv m c = m ((c : Thread nD τ).loc main_arg3) :=
  Memref.read_access_unit_zero (Elt F) main_arg3 (funext fun a => by fin_cases a <;> decide) (fun a => by fin_cases a <;> decide) _

theorem stgWo_eq (c : Dev nD) : stgWo m c = m ((c : Thread nD τ).loc main_arg4) :=
  Memref.read_access_unit_zero (Elt F) main_arg4 (funext fun a => by fin_cases a <;> decide) (fun a => by fin_cases a <;> decide) _

/-! ## The result array -/

/-- The result window's one block, the whole array, is written back once, with what the body left staged. -/
theorem finalA_5 (c : Dev nD) : finalA m ρ c (5 : Fin 6) = outAt m c := by
  have ho : (win0_5.blk (0 : Fin 1)).view.read (Elt F) (finalA m ρ c (5 : Fin 6)) = outAt m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hz : (fun a => (win0_5.index (0 : Fin 1)) a * main_v1.ty.shape.size a) = fun _ => 0 :=
    funext fun a => by fin_cases a <;> decide
  exact (Memref.read_access_unit_zero (Elt F) main_v1 hz (fun a => by fin_cases a <;> decide) _).symm.trans ho

/-! ## The claims -/

/-- What a device's arguments hold after a run of the kernel is what they held before it. -/
theorem args_unchanged (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (finalA_0 m ρ c), (h c (1 : Fin 6)).trans (finalA_1 m ρ c), (h c (3 : Fin 6)).trans (finalA_3 m ρ c),
    (h c (4 : Fin 6)).trans (finalA_4 m ρ c), (h c (2 : Fin 6)).trans (finalA_2 m ρ c)⟩

/-- Over any float values: the run ends with the arguments unchanged and every counter at zero. -/
theorem frame_any : θ_run (defs (F := F)) (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => args_unchanged m ρ r h.1 c, h.2⟩) (run_main m ρ)

/-- The two programs are one text, read over different float values: the body tables agree, label by label. -/
theorem kernel_bodies : Cert.Kernel.defs₀ (F := Bits) = Cert.KernelIdeal.defs₀ (F := Bits) := by
  unfold Cert.Kernel.defs₀ Cert.KernelIdeal.defs₀
  refine congrArg Defs.onTc ?_
  funext l a
  match l with
  | 0 => rfl

theorem kernel_defs : Cert.Kernel.defs (F := Bits) = Cert.KernelIdeal.defs (F := Bits) := congrArg (Pipeline.defs _) kernel_bodies

/-- The kernel on bit patterns. -/
theorem frame_kernel : Cert.quiescent_Kernel := fun m ρ _ => by
  have h := frame_any (F := Bits) m ρ
  rw [← kernel_defs] at h
  exact h

/-- The kernel on ideal values. -/
theorem frame_ideal : Cert.quiescent_KernelIdeal := fun m ρ _ => frame_any (F := Ideal) m ρ

/-- The reference on ideal values: it declares no semaphore, so no counter can be other than zero. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Exch

end
-- ==== Proof.Attend.lean ====
/-
# One row of one head

The arithmetic of the equation, on the extended reals and free of any program.  A row's scores `s` weigh a column `v` of
values: the kernel takes `∑ eˢ v / ∑ eˢ`, the reference first shifts the scores by their maximum, and sums from the zeros
that its running sums start from.  At real scores the two are one, whatever the values are, the infinities included: the
shift is by a real number, its exponential a positive real factor, which goes out of both sums and cancels.
-/
module

public import Idealize.ShloMosaic.Lib.Pointwise

@[expose] public section

noncomputable section

namespace Cert.Attend

open Idealize.ShloMosaic

/-! ## Real values -/

/-- An extended real that is a real. -/
def Real' (x : EReal) : Prop := ∃ r : ℝ, x = (r : EReal)

theorem real_mul {x y : EReal} : Real' x → Real' y → Real' (x * y) := by
  rintro ⟨a, rfl⟩ ⟨b, rfl⟩; exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sum {ι : Type} (s : Finset ι) (f : ι → EReal) (h : ∀ i, Real' (f i)) : Real' (∑ i ∈ s, f i) := by
  choose g hg using h
  exact ⟨∑ i ∈ s, g i, by rw [coe_sum]; exact Finset.sum_congr rfl fun i _ => hg i⟩

/-- A value below `⊤` in absolute value is a real. -/
theorem real_of_abs_lt {x : EReal} (h : max x (-x) < ⊤) : Real' x := by
  induction x with
  | bot => simp at h
  | top => simp at h
  | coe r => exact ⟨r, rfl⟩

/-- A positive real factor goes out of a sum of any extended reals. -/
theorem mul_sum {ι : Type} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-! ## The scale of the scores -/

/-- Scaling a query and scaling the score are one, at real queries, keys and scale. -/
theorem scale_score {q k : Fin 64 → EReal} {c : EReal} (hq : ∀ e, Real' (q e)) (hk : ∀ e, Real' (k e)) (hc : Real' c) :
    ∑ e, q e * c * k e = (∑ e, q e * k e) * c := by
  choose q' hq' using hq
  choose k' hk' using hk
  obtain ⟨c', rfl⟩ := hc
  simp only [hq', hk', ← EReal.coe_mul, ← coe_sum]
  refine congrArg _ ?_
  rw [Finset.sum_mul]
  exact Finset.sum_congr rfl fun e _ => by ring

/-! ## The row -/

/-- The kernel's row: the weighted sum of the values over the sum of the weights. -/
def soft (s v : Fin 256 → EReal) : EReal := Ideal.div (∑ j, Ideal.exp (s j) * v j) (∑ j, Ideal.exp (s j))

/-- The reference's shift: the greatest score. -/
def top (s : Fin 256 → EReal) : EReal := max ⊥ (Finset.univ.fold max ⊥ s)

/-- The reference's row. -/
def softShift (s v : Fin 256 → EReal) : EReal :=
  Ideal.div (0 * Ideal.exp (⊥ - top s) + ∑ j, v j * Ideal.exp (s j - top s))
    (0 * Ideal.exp (⊥ - top s) + (0 + ∑ j, Ideal.exp (s j - top s)))

theorem real_top {s : Fin 256 → EReal} (h : ∀ j, Real' (s j)) : Real' (top s) := by
  have hlt : top s < ⊤ := by
    refine max_lt bot_lt_top ((Finset.fold_max_lt ⊤).mpr ⟨bot_lt_top, fun j _ => ?_⟩)
    obtain ⟨r, hr⟩ := h j; rw [hr]; exact EReal.coe_lt_top r
  have hgt : ⊥ < top s := by
    refine lt_of_lt_of_le ((Finset.lt_fold_max ⊥).mpr (Or.inr ⟨0, Finset.mem_univ _, ?_⟩)) (le_max_right _ _)
    obtain ⟨r, hr⟩ := h 0; rw [hr]; exact EReal.bot_lt_coe r
  exact ⟨(top s).toReal, (EReal.coe_toReal hlt.ne hgt.ne').symm⟩

/-- A positive real factor cancels between a numerator and a positive real denominator. -/
theorem div_cancel (n : EReal) {a l : ℝ} (ha : 0 < a) (hl : 0 < l) :
    Ideal.div ((a : EReal) * n) ((a : EReal) * (l : EReal)) = Ideal.div n (l : EReal) := by
  have h : a * l ≠ 0 := (mul_pos ha hl).ne'
  rw [← EReal.coe_mul, Ideal.div_coe h, Ideal.div_coe hl.ne', mul_comm (a : EReal) n, mul_assoc, ← EReal.coe_mul]
  refine congrArg _ (congrArg _ ?_)
  field_simp

/-- At real scores the reference's row is the kernel's. -/
theorem softShift_eq {s v : Fin 256 → EReal} (h : ∀ j, Real' (s j)) : softShift s v = soft s v := by
  obtain ⟨t, ht⟩ := real_top h
  choose r hr using h
  have hexp : ∀ j, Ideal.exp (s j - top s) = (Real.exp (-t) : EReal) * Ideal.exp (s j) := fun j => by
    rw [hr j, ht, ← EReal.coe_sub, Ideal.exp_coe, Ideal.exp_coe, ← EReal.coe_mul, ← Real.exp_add]
    exact congrArg _ (congrArg _ (by ring))
  have hden : ∑ j, Ideal.exp (s j) = ((∑ j, Real.exp (r j) : ℝ) : EReal) := by
    rw [coe_sum]; exact Finset.sum_congr rfl fun j _ => by rw [hr j, Ideal.exp_coe]
  have hpos : 0 < ∑ j, Real.exp (r j) := Finset.sum_pos (fun j _ => Real.exp_pos _) ⟨0, Finset.mem_univ _⟩
  unfold softShift soft
  simp only [zero_mul, zero_add, hexp]
  rw [← mul_sum _ _ (Real.exp_pos (-t)).le, hden, ← div_cancel _ (Real.exp_pos (-t)) hpos, mul_sum _ _ (Real.exp_pos (-t)).le]
  refine congrArg (fun n => Ideal.div n _) (Finset.sum_congr rfl fun j _ => ?_)
  rw [mul_comm (v j), mul_assoc]

/-! ## Sums over heads and columns -/

/-- A sum over all of the columns, by device, head and column of the head. -/
theorem sum_columns (f : Fin 2048 → EReal) :
    ∑ k, f k = ∑ c : Fin 4, ∑ h : Fin 8, ∑ e : Fin 64, f ⟨512 * c.val + (64 * h.val + e.val), by omega⟩ := by
  let φ : (Fin 4 × Fin 8) × Fin 64 ≃ Fin 2048 :=
    { toFun := fun p => ⟨512 * p.1.1.val + (64 * p.1.2.val + p.2.val), by omega⟩
      invFun := fun k => ((⟨k.val / 512, by omega⟩, ⟨k.val % 512 / 64, by omega⟩), ⟨k.val % 64, by omega⟩)
      left_inv := fun p => by
        rcases p with ⟨⟨⟨c, hc⟩, ⟨h, hh⟩⟩, ⟨e, he⟩⟩
        simp only [Prod.mk.injEq, Fin.mk.injEq]
        omega
      right_inv := fun k => Fin.ext (by simp only []; omega) }
  rw [← Equiv.sum_comp φ f, Fintype.sum_prod_type, Fintype.sum_prod_type]
  rfl

/-- A sum over one device's columns, by head and column of the head. -/
theorem sum_heads (f : Fin 512 → EReal) :
    ∑ k, f k = ∑ h : Fin 8, ∑ e : Fin 64, f ⟨64 * h.val + e.val, by omega⟩ := by
  let φ : Fin 8 × Fin 64 ≃ Fin 512 :=
    { toFun := fun p => ⟨64 * p.1.val + p.2.val, by omega⟩
      invFun := fun k => (⟨k.val / 64, by omega⟩, ⟨k.val % 64, by omega⟩)
      left_inv := fun p => by
        rcases p with ⟨⟨h, hh⟩, ⟨e, he⟩⟩
        simp only [Prod.mk.injEq, Fin.mk.injEq]
        omega
      right_inv := fun k => Fin.ext (by simp only []; omega) }
  rw [← Equiv.sum_comp φ f, Fintype.sum_prod_type]
  rfl

end Cert.Attend

end
-- ==== Proof.Partial.lean ====
/-
# One device's partial product, at an index

A device's partial product of one batch is the product of its eight heads, side by side, and its rows of the output
weights.  Each head is one text at its own columns of the queries, the keys and the values.
-/
module

public import proofs.«01_k».proof.Proof.Protocol
public import proofs.«01_k».proof.Proof.Attend
public import Idealize.ShloMosaic.Lib.Pointwise

@[expose] public section

set_option maxRecDepth 16384

noncomputable section

namespace Cert.Exch

open Cert.KernelIdeal Cert.KernelIdeal.Gen

open Idealize.ShloMosaic
open Idealize.ShloMosaic.TcCoe

section Texts

variable {F : FTy → Type} [FloatOps F]

/-- One head, of its queries, keys and values. -/
def headOf (q k v : FVec F S256x64 .bf16) : FVec F S256x64 .bf16 :=
  truncf .bf16 (divf
    (matmul dot_S256x256_S256x64_S256x64_1_0_0_1_n_n none
      (truncf .bf16 (exp (matmul dot_S256x64_S256x64_S256x256_1_1_0_0_n_n none q k (constant S256x256 .f32 0x00000000#32))) bitsLt_bf16_f32)
      v (constant S256x64 .f32 0x00000000#32))
    (broadcastTo S256x64 (shapeCast S256x1
      (multiReduction .add [1] S256 (exp (matmul dot_S256x64_S256x64_S256x256_1_1_0_0_n_n none q k (constant S256x256 .f32 0x00000000#32)))
        0x00000000#32 reduces_S256x256_S256 (.inl rfl) rfl) shapeCasts_S256_S256x1) broadcasts_S256x1_S256x64)) bitsLt_bf16_f32

/-- The heads side by side, by the output weights, in two halves of 128 rows. -/
def joinOf (a0 a1 a2 a3 a4 a5 a6 a7 : FVec F S256x64 .bf16) (wo : Vec F S512x768 .bf16) : Vec F S1x2x128x768 .bf16 :=
  shapeCast S1x2x128x768 (shapeCast S2x128x768 (truncf .bf16
    (matmul dot_S256x512_S512x768_S256x768_1_0_0_1_n_n none
      (concatenate S256x512 1 [⟨S256x64, a0⟩, ⟨S256x64, a1⟩, ⟨S256x64, a2⟩, ⟨S256x64, a3⟩, ⟨S256x64, a4⟩, ⟨S256x64, a5⟩, ⟨S256x64, a6⟩, ⟨S256x64, a7⟩]
        concatenates_S256x64_S256x64_S256x64_S256x64_S256x64_S256x64_S256x64_S256x64_S256x512_d1)
      (k0_pay5 wo) (constant S256x768 .f32 0x00000000#32)) bitsLt_bf16_f32)
    shapeCasts_S256x768_S2x128x768) shapeCasts_S2x128x768_S1x2x128x768

/-- The eight heads of a device's queries, keys and values. -/
def headsOf (q k v : FVec F S256x512 .bf16) (wo : Vec F S512x768 .bf16) : Vec F S1x2x128x768 .bf16 :=
  joinOf
    (headOf (extractStridedSlice S256x64 ![0, 0] q slices_S256x512_o0_0_S256x64) (extractStridedSlice S256x64 ![0, 0] k slices_S256x512_o0_0_S256x64)
      (extractStridedSlice S256x64 ![0, 0] v slices_S256x512_o0_0_S256x64))
    (headOf (extractStridedSlice S256x64 ![0, 64] q slices_S256x512_o0_64_S256x64) (extractStridedSlice S256x64 ![0, 64] k slices_S256x512_o0_64_S256x64)
      (extractStridedSlice S256x64 ![0, 64] v slices_S256x512_o0_64_S256x64))
    (headOf (extractStridedSlice S256x64 ![0, 128] q slices_S256x512_o0_128_S256x64) (extractStridedSlice S256x64 ![0, 128] k slices_S256x512_o0_128_S256x64)
      (extractStridedSlice S256x64 ![0, 128] v slices_S256x512_o0_128_S256x64))
    (headOf (extractStridedSlice S256x64 ![0, 192] q slices_S256x512_o0_192_S256x64) (extractStridedSlice S256x64 ![0, 192] k slices_S256x512_o0_192_S256x64)
      (extractStridedSlice S256x64 ![0, 192] v slices_S256x512_o0_192_S256x64))
    (headOf (extractStridedSlice S256x64 ![0, 256] q slices_S256x512_o0_256_S256x64) (extractStridedSlice S256x64 ![0, 256] k slices_S256x512_o0_256_S256x64)
      (extractStridedSlice S256x64 ![0, 256] v slices_S256x512_o0_256_S256x64))
    (headOf (extractStridedSlice S256x64 ![0, 320] q slices_S256x512_o0_320_S256x64) (extractStridedSlice S256x64 ![0, 320] k slices_S256x512_o0_320_S256x64)
      (extractStridedSlice S256x64 ![0, 320] v slices_S256x512_o0_320_S256x64))
    (headOf (extractStridedSlice S256x64 ![0, 384] q slices_S256x512_o0_384_S256x64) (extractStridedSlice S256x64 ![0, 384] k slices_S256x512_o0_384_S256x64)
      (extractStridedSlice S256x64 ![0, 384] v slices_S256x512_o0_384_S256x64))
    (headOf (extractStridedSlice S256x64 ![0, 448] q slices_S256x512_o0_448_S256x64) (extractStridedSlice S256x64 ![0, 448] k slices_S256x512_o0_448_S256x64)
      (extractStridedSlice S256x64 ![0, 448] v slices_S256x512_o0_448_S256x64)) wo

theorem partOf_eq (wq wk wv : Vec F S768x512 .bf16) (wo : Vec F S512x768 .bf16) (x : Vec F S1x256x768 .bf16) :
    partOf wq wk wv wo x = headsOf (k0_pay7 wq x) (k0_pay8 wk x) (k0_pay9 wv x) wo := rfl

end Texts

/-! ## At an index -/

theorem headOf_apply (q k v : FVec Ideal S256x64 .bf16) (i : Fin 256) (d : Fin 64) :
    headOf q k v (ix2 i d) = Attend.soft (fun j => ∑ e : Fin 64, q (ix2 i e) * k (ix2 j e)) (fun j => v (ix2 j d)) := by
  unfold Attend.soft
  pointwise! [headOf]

theorem query_apply (w : Vec Ideal S768x512 .bf16) (x : Vec Ideal S1x256x768 .bf16) (i : Fin 256) (e : Fin 512) :
    k0_pay7 w x (ix2 i e) = (∑ n : Fin 768, x (ix3 0 i n) * w (ix2 n e)) * Ideal.ofBits .f32 0x3E000000#32 := by
  pointwise! [k0_pay7, k0_pay6, k0_pay2]

theorem key_apply (w : Vec Ideal S768x512 .bf16) (x : Vec Ideal S1x256x768 .bf16) (i : Fin 256) (e : Fin 512) :
    k0_pay8 w x (ix2 i e) = ∑ n : Fin 768, x (ix3 0 i n) * w (ix2 n e) := by
  pointwise! [k0_pay8, k0_pay6, k0_pay3]

theorem value_apply (w : Vec Ideal S768x512 .bf16) (x : Vec Ideal S1x256x768 .bf16) (i : Fin 256) (e : Fin 512) :
    k0_pay9 w x (ix2 i e) = ∑ n : Fin 768, x (ix3 0 i n) * w (ix2 n e) := by
  pointwise! [k0_pay9, k0_pay6, k0_pay4]

set_option maxHeartbeats 2000000 in
theorem joinOf_apply (a : Fin 8 → FVec Ideal S256x64 .bf16) (wo : Vec Ideal S512x768 .bf16) (j : Fin 2) (r : Fin 128) (o : Fin 768) :
    joinOf (a 0) (a 1) (a 2) (a 3) (a 4) (a 5) (a 6) (a 7) wo (ix4 0 j r o) =
      ∑ h : Fin 8, ∑ e : Fin 64, a h (ix2 ⟨128 * j.val + r.val, by omega⟩ e) * wo (ix2 ⟨64 * h.val + e.val, by omega⟩ o) := by
  pointwise [joinOf, k0_pay5]
  rw [Attend.sum_heads]
  refine Finset.sum_congr rfl fun h _ => Finset.sum_congr rfl fun e _ => congrArg (· * _) ?_
  have he := e.isLt
  fin_cases h <;> dsimp only <;> split_ifs <;> first | (exfalso; omega) | exact congrArg _ (congrArg₂ ix2 (Fin.ext (by dsimp only; omega)) (Fin.ext (by dsimp only; omega)))

/-- Head `h`'s 64 columns. -/
def headCols (q : FVec Ideal S256x512 .bf16) (h : Fin 8) : FVec Ideal S256x64 .bf16 :=
  fun i => q (ix2 (i 0) ⟨64 * h.val + (i 1).val, by have := (i 1).isLt; have : (i 1).val < 64 := this; omega⟩)

theorem headsOf_eq (q k v : FVec Ideal S256x512 .bf16) (wo : Vec Ideal S512x768 .bf16) :
    headsOf q k v wo = (let a := fun h : Fin 8 => headOf (headCols q h) (headCols k h) (headCols v h);
      joinOf (a 0) (a 1) (a 2) (a 3) (a 4) (a 5) (a 6) (a 7) wo) := by
  have e : ∀ (q : FVec Ideal S256x512 .bf16) (h : Fin 8) (off : ℕ) (ho : off = 64 * h.val) (hs), extractStridedSlice S256x64 ![0, off] q hs = headCols q h := by
    intro q h off ho hs
    subst ho
    funext i
    rw [eq_ix2 i]
    unfold headCols
    pointwise!
  simp only [headsOf, e q 0 0 rfl, e q 1 64 rfl, e q 2 128 rfl, e q 3 192 rfl, e q 4 256 rfl, e q 5 320 rfl, e q 6 384 rfl, e q 7 448 rfl,
    e k 0 0 rfl, e k 1 64 rfl, e k 2 128 rfl, e k 3 192 rfl, e k 4 256 rfl, e k 5 320 rfl, e k 6 384 rfl, e k 7 448 rfl,
    e v 0 0 rfl, e v 1 64 rfl, e v 2 128 rfl, e v 3 192 rfl, e v 4 256 rfl, e v 5 320 rfl, e v 6 384 rfl, e v 7 448 rfl]

end Cert.Exch

end
-- ==== Proof.Devices.lean ====
/-
# A device's result, at an index

A device's result is the sum of the four devices' partial products, whichever way the two rounds paired them: on the
extended reals addition is commutative and associative.
-/
module

public import proofs.«01_k».proof.Proof.Body
public import proofs.«01_k».proof.Proof.Partial

@[expose] public section

set_option maxRecDepth 16384

noncomputable section

namespace Cert.Exch

open Cert.KernelIdeal Cert.KernelIdeal.Gen

open Idealize.ShloMosaic
open Idealize.ShloMosaic.TcCoe

/-- One device's partial product at batch `b`, row `i`, column `o`, of its rows and its blocks of the weights. -/
def partAt (x : FVec Ideal S2x256x768 .bf16) (wq wk wv : FVec Ideal S768x512 .bf16) (wo : FVec Ideal S512x768 .bf16)
    (b : Fin 2) (i : Fin 256) (o : Fin 768) : EReal :=
  ∑ h : Fin 8, ∑ e : Fin 64,
    Attend.soft
      (fun j => ∑ d : Fin 64, (∑ n : Fin 768, x (ix3 b i n) * wq (ix2 n ⟨64 * h.val + d.val, by omega⟩)) * Ideal.ofBits .f32 0x3E000000#32
        * ∑ n : Fin 768, x (ix3 b j n) * wk (ix2 n ⟨64 * h.val + d.val, by omega⟩))
      (fun j => ∑ n : Fin 768, x (ix3 b j n) * wv (ix2 n ⟨64 * h.val + e.val, by omega⟩))
    * wo (ix2 ⟨64 * h.val + e.val, by omega⟩ o)

variable (m : (ℓ : Loc nD τ sig) → Buf (Elt Ideal) ℓ)

theorem headCols_apply (q : FVec Ideal S256x512 .bf16) (h : Fin 8) (i : Fin 256) (e : Fin 64) :
    headCols q h (ix2 i e) = q (ix2 i ⟨64 * h.val + e.val, by omega⟩) := rfl

theorem xb_apply (c : Dev nD) (b : Fin 2) (i : Fin 256) (n : Fin 768) :
    xb m c (decide (b.val = 1)) (ix3 0 i n) = stgX m c (ix3 b i n) := by
  fin_cases b
  · show xb m c false _ = _
    unfold xb
    refine congrArg (stgX m c : S2x256x768.Idx → EReal) (funext fun a => Fin.ext ?_)
    fin_cases a <;> simp [Rect.unit, ix3]
  · show xb m c true _ = _
    unfold xb
    refine congrArg (stgX m c : S2x256x768.Idx → EReal) (funext fun a => Fin.ext ?_)
    fin_cases a <;> simp [Rect.unit, ix3]

theorem part_apply (c : Dev nD) (b : Fin 2) (j : Fin 2) (r : Fin 128) (o : Fin 768) :
    part m c (decide (b.val = 1)) (ix4 0 j r o) =
      partAt (stgX m c) (stgWq m c) (stgWk m c) (stgWv m c) (stgWo m c) b ⟨128 * j.val + r.val, by omega⟩ o := by
  unfold part partAt
  rw [partOf_eq, headsOf_eq]
  dsimp only
  rw [joinOf_apply (fun h => headOf (headCols (k0_pay7 (stgWq m c) (xb m c (decide (b.val = 1)))) h)
    (headCols (k0_pay8 (stgWk m c) (xb m c (decide (b.val = 1)))) h) (headCols (k0_pay9 (stgWv m c) (xb m c (decide (b.val = 1)))) h))]
  simp only [headOf_apply, headCols_apply, query_apply, key_apply, value_apply, xb_apply]

theorem half_apply (W : Vec Ideal S1x2x128x768 .bf16) (j : Fin 2) (r : Fin 128) (o : Fin 768) : half W j (ix2 r o) = W (ix4 0 j r o) := by
  unfold half down
  pointwise
  refine congrArg W (funext fun a => ?_)
  fin_cases a <;> rfl

theorem sum1_apply (u v : PieceC Ideal) (r : Fin 128) (o : Fin 768) : down (sum1 u v) (ix2 r o) = u (ix2 r o) + v (ix2 r o) := by
  unfold sum1 up down
  pointwise! [k0_pay34]

theorem sum2_apply (u v : PieceC Ideal) (r : Fin 128) (o : Fin 768) : sum2 u v (ix3 0 r o) = u (ix2 r o) + v (ix2 r o) := by
  unfold sum2 up
  pointwise! [k0_pay38]

/-- The two rounds meet every device once. -/
theorem rounds (f : Dev nD → EReal) (c : Dev nD) (b : Bool) (j : Fin 2) :
    f c + f (peer (tr1 b j) c) + (f (peer (tr2 b j) c) + f (peer (tr1 b j) (peer (tr2 b j) c))) = ∑ d, f d := by
  have hb : Function.Bijective (![c, peer (tr1 b j) c, peer (tr2 b j) c, peer (tr1 b j) (peer (tr2 b j) c)] : Fin 4 → Dev nD) := by
    revert b j c; decide
  rw [← hb.sum_comp f, Fin.sum_univ_four, ← add_assoc]
  rfl

theorem outAt_apply (c : Dev nD) (b : Fin 2) (i : Fin 256) (o : Fin 768) :
    (outAt (F := Ideal) m c : S2x256x768.Idx → EReal) (ix3 b i o) = ∑ d : Dev nD, partAt (stgX m d) (stgWq m d) (stgWk m d) (stgWv m d) (stgWo m d) b i o := by
  have hp : ∀ d : Dev nD, own1 m d (decide (b.val = 1)) ⟨i.val / 128, by omega⟩ (ix2 ⟨i.val % 128, by omega⟩ o) =
      partAt (stgX m d) (stgWq m d) (stgWk m d) (stgWv m d) (stgWo m d) b i o := fun d => by
    unfold own1
    rw [half_apply, part_apply]
    exact congrArg (partAt _ _ _ _ _ b · o) (Fin.ext (by simp only []; omega))
  have ho : (outAt (F := Ideal) m c : S2x256x768.Idx → EReal) (ix3 b i o) = outPiece m c (decide (b.val = 1)) ⟨i.val / 128, by omega⟩ (ix3 0 ⟨i.val % 128, by omega⟩ o) := by
    unfold outAt
    refine congrArg _ (funext fun a => ?_)
    fin_cases a <;> rfl
  rw [ho]
  unfold outPiece own2
  rw [sum2_apply, sum1_apply, sum1_apply]
  simp only [hp]
  exact rounds (fun d => partAt (stgX m d) (stgWq m d) (stgWk m d) (stgWv m d) (stgWo m d) b i o) c _ _

end Cert.Exch

end
-- ==== Proof.Whole.lean ====
/-
# The reference's result, at an index

The reference's composed term, read stage by stage: the projections, the scores, their maximum, the shifted weights, the
rows and the output projection.
-/
module

public import proofs.«01_k».proof.Proof.Gen.ReferenceIdeal.Run
public import proofs.«01_k».proof.Proof.Attend
public import Idealize.ShloMosaic.Lib.Pointwise

@[expose] public section

set_option maxRecDepth 16384

noncomputable section

namespace Cert.Whole

open Cert.ReferenceIdeal Cert.ReferenceIdeal.Gen

open Idealize.ShloMosaic
open Idealize.ShloMosaic.TcCoe

section Texts

variable {F : FTy → Type} [FloatOps F]

/-- A projection of the rows, by head. -/
def proj (x : FVec F S2x256x768 .bf16) (w : FVec F S768x2048 .bf16) : FVec F S2x256x32x64 .f32 :=
  shapeCast _ (Host.dotGeneral dot_S2x256x768_S768x2048_S2x256x2048_2_0_01_1_n_n none (extf .f32 x bitsLt_bf16_f32) (extf .f32 w bitsLt_bf16_f32))
    shapeCasts_S2x256x2048_S2x256x32x64

/-- The scaled scores. -/
def scores (q k : FVec F S2x256x32x64 .f32) : FVec F S2x32x256x256 .f32 :=
  mulf (Host.dotGeneral dot_S2x256x32x64_S2x256x32x64_S2x32x256x256_3_3_1_1_02_02 none q k)
    (broadcastInDim S2x32x256x256 ![] bcast_S_S2x32x256x256 (constant S_ .f32 0x3E000000#32))

/-- The value each row's running maximum starts from. -/
def low : FVec F S2x32x256x1 .f32 := broadcastInDim S2x32x256x1 ![] bcast_S_S2x32x256x1 (constant S_ .f32 0xFF800000#32)

/-- Each row's maximum. -/
def greatest (s : FVec F S2x32x256x256 .f32) : FVec F S2x32x256x1 .f32 :=
  maximumf low (broadcastInDim S2x32x256x1 ![0, 1, 2] bcast_S2x32x256_S2x32x256x1_0_1_2
    (Host.reduce FloatOps.maximumf s (constant S_ .f32 0xFF800000#32) reducesTo_S2x32x256x256_S2x32x256_d3 h_S_))

/-- The shifted weights. -/
def weights (s : FVec F S2x32x256x256 .f32) : FVec F S2x32x256x256 .f32 :=
  Host.exp (subf s (broadcastInDim S2x32x256x256 ![0, 1, 2, 3] bcast_S2x32x256x1_S2x32x256x256_0_1_2_3 (greatest s)))

/-- The rows: the weighted values over the sum of the weights. -/
def rows (s : FVec F S2x32x256x256 .f32) (v : FVec F S2x256x32x64 .f32) : FVec F S2x256x32x64 .f32 :=
  Host.divf
    (addf (mulf (broadcastInDim S2x256x32x64 ![] bcast_S_S2x256x32x64 (constant S_ .f32 0x00000000#32))
        (broadcastInDim S2x256x32x64 ![0, 1, 2, 3] bcast_S2x256x32x1_S2x256x32x64_0_1_2_3
          (transpose S2x256x32x1 [0, 2, 1, 3] (Host.exp (subf low (greatest s))) transposes_S2x32x256x1_S2x256x32x1_0_2_1_3)))
      (transpose S2x256x32x64 [0, 3, 1, 2]
        (Host.dotGeneral dot_S2x256x32x64_S2x32x256x256_S2x32x64x256_1_3_3_2_02_01 none v (weights s)) transposes_S2x32x64x256_S2x256x32x64_0_3_1_2))
    (broadcastInDim S2x256x32x64 ![0, 1, 2, 3] bcast_S2x256x32x1_S2x256x32x64_0_1_2_3
      (transpose S2x256x32x1 [0, 2, 1, 3]
        (addf (mulf (broadcastInDim S2x32x256x1 ![] bcast_S_S2x32x256x1 (constant S_ .f32 0x00000000#32)) (Host.exp (subf low (greatest s))))
          (broadcastInDim S2x32x256x1 ![0, 1, 2] bcast_S2x32x256_S2x32x256x1_0_1_2
            (Host.reduceAdd (weights s) (constant S_ .f32 0x00000000#32) reducesTo_S2x32x256x256_S2x32x256_d3 h_S_)))
        transposes_S2x32x256x1_S2x256x32x1_0_2_1_3))

/-- The output projection. -/
def output (a : FVec F S2x256x32x64 .f32) (wo : FVec F S2048x768 .bf16) : FVec F S2x256x768 .f32 :=
  Host.dotGeneral dot_S2x256x2048_S2048x768_S2x256x768_2_0_01_1_n_n none (shapeCast _ a shapeCasts_S2x256x32x64_S2x256x2048)
    (extf .f32 wo bitsLt_bf16_f32)

theorem res_eq (m : (ℓ : Loc nD τ sig) → Buf (Elt F) ℓ) (c : Dev nD) :
    Value.res_main_v39 m c =
      output (rows (scores (proj (m ((c.tc : Thread nD τ).loc main_arg0)) (m ((c.tc : Thread nD τ).loc main_arg1)))
          (proj (m ((c.tc : Thread nD τ).loc main_arg0)) (m ((c.tc : Thread nD τ).loc main_arg2))))
        (proj (m ((c.tc : Thread nD τ).loc main_arg0)) (m ((c.tc : Thread nD τ).loc main_arg3))))
        (m ((c.tc : Thread nD τ).loc main_arg4)) := rfl

end Texts

/-! ## At an index -/

/-- A maximum over the last of four axes, at an index. -/
theorem hostMax_apply {n0 n1 n2 n3 : ℕ} (x : FVec Ideal ⟨4, ![n0, n1, n2, n3]⟩ .f32) (init : S_.Idx → Ideal .f32)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf (F := Ideal) (φ := .f32)) x init h hu (ix3 a b c) =
      Finset.univ.fold max (init (Shape.Idx.first hu)) fun k => x (ix4 a b c k) := by
  rw [Host.reduce_eq_fold, Shape.ReducesTo.fold_fiber_r4_a3]
  rfl

theorem proj_apply (x : FVec Ideal S2x256x768 .bf16) (w : FVec Ideal S768x2048 .bf16) (b : Fin 2) (i : Fin 256) (h : Fin 32) (e : Fin 64) :
    proj x w (ix4 b i h e) = ∑ n : Fin 768, x (ix3 b i n) * w (ix2 n ⟨64 * h.val + e.val, by omega⟩) := by
  have hc : (⟨h.val * 64 + e.val, by omega⟩ : Fin 2048) = ⟨64 * h.val + e.val, by omega⟩ := Fin.ext (by simp only []; omega)
  pointwise [proj]
  exact Finset.sum_congr rfl fun n _ => congrArg (fun z => _ * w (ix2 n z)) hc

theorem scores_apply (q k : FVec Ideal S2x256x32x64 .f32) (b : Fin 2) (h : Fin 32) (i j : Fin 256) :
    scores q k (ix4 b h i j) = (∑ e : Fin 64, q (ix4 b i h e) * k (ix4 b j h e)) * Ideal.ofBits .f32 0x3E000000#32 := by
  pointwise! [scores]

theorem ofBits_low : Ideal.ofBits .f32 0xFF800000#32 = ⊥ := by
  simp [Ideal.ofBits, Ideal.ieee]

theorem ofBits_scale : Attend.Real' (Ideal.ofBits .f32 0x3E000000#32) :=
  ⟨1 / 8, by simp [Ideal.ofBits, Ideal.ieee, -EReal.coe_mul]; norm_num⟩

theorem maximumf_apply {s : Shape} (x y : FVec Ideal s .f32) (i : s.Idx) : maximumf x y i = max (x i) (y i) := rfl

theorem greatest_apply (s : FVec Ideal S2x32x256x256 .f32) (b : Fin 2) (h : Fin 32) (i : Fin 256) :
    greatest s (ix4 b h i 0) = Attend.top (fun j => s (ix4 b h i j)) := by
  have hb : ∀ z : FVec Ideal S2x32x256 .f32, broadcastInDim S2x32x256x1 ![0, 1, 2] bcast_S2x32x256_S2x32x256x1_0_1_2 z (ix4 b h i 0) = z (ix3 b h i) := by
    intro z; pointwise
  have hl : (low (F := Ideal)) (ix4 b h i 0) = ⊥ := by pointwise [low]; exact ofBits_low
  unfold greatest
  rw [maximumf_apply, hb, hl]
  exact congrArg (max ⊥) ((hostMax_apply s _ _ _ b h i).trans (congrArg (fun z => Finset.univ.fold max z _) ofBits_low))

theorem weights_apply (s : FVec Ideal S2x32x256x256 .f32) (b : Fin 2) (h : Fin 32) (i j : Fin 256) :
    weights s (ix4 b h i j) = Ideal.exp (s (ix4 b h i j) - Attend.top (fun j => s (ix4 b h i j))) := by
  pointwise [weights]
  rw [greatest_apply]

theorem rows_apply (s : FVec Ideal S2x32x256x256 .f32) (v : FVec Ideal S2x256x32x64 .f32) (b : Fin 2) (i : Fin 256) (h : Fin 32) (e : Fin 64) :
    rows s v (ix4 b i h e) = Attend.softShift (fun j => s (ix4 b h i j)) (fun j => v (ix4 b j h e)) := by
  unfold Attend.softShift
  pointwise [rows, low]
  simp only [greatest_apply, weights_apply, ofBits_low]

theorem output_apply (a : FVec Ideal S2x256x32x64 .f32) (wo : FVec Ideal S2048x768 .bf16) (b : Fin 2) (i : Fin 256) (o : Fin 768) :
    output a wo (ix3 b i o) = ∑ k : Fin 2048, a (ix4 b i ⟨k.val / 64, by omega⟩ ⟨k.val % 64, by omega⟩) * wo (ix2 k o) := by
  pointwise [output]

end Cert.Whole

end
-- ==== Proof.Equal.lean ====
/-
# The equation

The sum of the devices' partial products is the reference's result: a whole column of the weights is a device's column, a
head of one device is a head of the whole, and at real queries and keys the two ways to write a row agree.  The values and
the output weights may be anything.  Then the claim: both programs run, and every device's result is the reference's.
-/
module

public import proofs.«01_k».proof.Proof.Devices
public import proofs.«01_k».proof.Proof.Whole
public import proofs.«01_k».proof.Proof.Frames

@[expose] public section

set_option maxRecDepth 16384

noncomputable section

namespace Cert.Exch

open Idealize.ShloMosaic
open Idealize.ShloMosaic.TcCoe
open Idealize.SL.Sem

/-! ## The sum of the partial products -/

section Sum

variable {x : FVec Ideal KernelIdeal.S2x256x768 .bf16} {wq wk wv : FVec Ideal ReferenceIdeal.S768x2048 .bf16}
  {wo : FVec Ideal ReferenceIdeal.S2048x768 .bf16} {bq bk bv : Fin 4 → FVec Ideal KernelIdeal.S768x512 .bf16}
  {bo : Fin 4 → FVec Ideal KernelIdeal.S512x768 .bf16}

/-- The blocks `bw` are the whole's columns, device by device. -/
def Columns (bw : Fin 4 → FVec Ideal KernelIdeal.S768x512 .bf16) (w : FVec Ideal ReferenceIdeal.S768x2048 .bf16) : Prop :=
  ∀ (c : Fin 4) (n : Fin 768) (e : Fin 512), bw c (ix2 n e) = w (ix2 n ⟨512 * c.val + e.val, by omega⟩)

/-- The blocks `bw` are the whole's rows, device by device. -/
def Rows (bw : Fin 4 → FVec Ideal KernelIdeal.S512x768 .bf16) (w : FVec Ideal ReferenceIdeal.S2048x768 .bf16) : Prop :=
  ∀ (c : Fin 4) (e : Fin 512) (o : Fin 768), bw c (ix2 e o) = w (ix2 ⟨512 * c.val + e.val, by omega⟩ o)

/-- A projection by a device's block at its head's column is the whole projection at that head. -/
theorem proj_block {bw : Fin 4 → FVec Ideal KernelIdeal.S768x512 .bf16} {w : FVec Ideal ReferenceIdeal.S768x2048 .bf16} (hw : Columns bw w)
    (c : Fin 4) (h : Fin 8) (b : Fin 2) (i : Fin 256) (e : Fin 64) :
    ∑ n : Fin 768, x (ix3 b i n) * bw c (ix2 n ⟨64 * h.val + e.val, by omega⟩) =
      Whole.proj x w (ix4 b i ⟨8 * c.val + h.val, by omega⟩ e) := by
  rw [Whole.proj_apply]
  refine Finset.sum_congr rfl fun n _ => congrArg _ ((hw c n _).trans (congrArg (fun z => w (ix2 n z)) (Fin.ext ?_)))
  dsimp only; omega

theorem real_proj {w : FVec Ideal ReferenceIdeal.S768x2048 .bf16} (hx : ∀ i, Attend.Real' (x i)) (hw : ∀ i, Attend.Real' (w i))
    (b : Fin 2) (i : Fin 256) (h : Fin 32) (e : Fin 64) : Attend.Real' (Whole.proj x w (ix4 b i h e)) := by
  rw [Whole.proj_apply]
  exact Attend.real_sum _ _ fun n => Attend.real_mul (hx _) (hw _)

theorem sum_parts (hx : ∀ i, Attend.Real' (x i)) (hq : ∀ i, Attend.Real' (wq i)) (hk : ∀ i, Attend.Real' (wk i))
    (hbq : Columns bq wq) (hbk : Columns bk wk) (hbv : Columns bv wv) (hbo : Rows bo wo) (b : Fin 2) (i : Fin 256) (o : Fin 768) :
    ∑ c : Fin 4, partAt x (bq c) (bk c) (bv c) (bo c) b i o =
      Whole.output (Whole.rows (Whole.scores (Whole.proj x wq) (Whole.proj x wk)) (Whole.proj x wv)) wo (ix3 b i o) := by
  rw [Whole.output_apply, Attend.sum_columns]
  unfold partAt
  refine Finset.sum_congr rfl fun c _ => Finset.sum_congr rfl fun h _ => Finset.sum_congr rfl fun e _ => ?_
  have hH : (⟨(512 * c.val + (64 * h.val + e.val)) / 64, by omega⟩ : Fin 32) = ⟨8 * c.val + h.val, by omega⟩ := Fin.ext (by dsimp only; omega)
  have hE : (⟨(512 * c.val + (64 * h.val + e.val)) % 64, by omega⟩ : Fin 64) = e := Fin.ext (by dsimp only; omega)
  have ha := fun a : FVec Ideal ReferenceIdeal.S2x256x32x64 .f32 => congrArg a (congrArg₂ (ix4 b i) hH hE)
  refine Eq.trans ?_ (congrArg (· * _) (ha _)).symm
  rw [Whole.rows_apply, Attend.softShift_eq fun j => ?_]
  · refine congrArg₂ (· * ·) (congrArg₂ Attend.soft (funext fun j => ?_) (funext fun j => proj_block hbv c h b j e)) (hbo c _ o)
    rw [Whole.scores_apply, ← Attend.scale_score (fun d => real_proj hx hq b i _ d) (fun d => real_proj hx hk b j _ d) Whole.ofBits_scale]
    exact Finset.sum_congr rfl fun d _ => congrArg₂ (· * ·) (congrArg (· * _) (proj_block hbq c h b i d)) (proj_block hbk c h b j d)
  · rw [Whole.scores_apply]
    exact Attend.real_mul (Attend.real_sum _ _ fun d => Attend.real_mul (real_proj hx hq b i _ d) (real_proj hx hk b j _ d)) Whole.ofBits_scale

end Sum

/-! ## The precondition -/

theorem ofBits_inf : Ideal.ofBits .f32 0x7F800000#32 = ⊤ := by
  simp [Ideal.ofBits, Ideal.ieee]

/-- A value the precondition's test passes is a real. -/
theorem real_of_test {x : EReal} (h : Ideal.cmp .olt (max x (-x)) (Ideal.ofBits .f32 0x7F800000#32) = 1#1) : Attend.Real' x := by
  rw [ofBits_inf] at h
  refine Attend.real_of_abs_lt ?_
  by_contra hn
  simp [Ideal.cmp, hn] at h

section Program

open Cert.KernelIdeal

/-- Under the precondition every device's rows, query weights and key weights are real. -/
theorem real_args [hPre : Cert.Pre_scores_finite_KernelIdeal.Facts] (m : (ℓ : Loc nD τ sig) → Buf (Elt Ideal) ℓ)
    (h : Cert.Pre_KernelIdeal_scores_finite_KernelIdeal m) (c : Dev nD) :
    (∀ i, Attend.Real' ((m ((c.tc : Thread nD τ).loc main_arg0) : S2x256x768.Idx → EReal) i))
    ∧ (∀ i, Attend.Real' ((m ((c.tc : Thread nD τ).loc main_arg1) : S768x512.Idx → EReal) i))
    ∧ (∀ i, Attend.Real' ((m ((c.tc : Thread nD τ).loc main_arg2) : S768x512.Idx → EReal) i)) :=
  ⟨fun i => real_of_test (congrFun (h c).1 i), fun i => real_of_test (congrFun (h c).2.1 i), fun i => real_of_test (congrFun (h c).2.2 i)⟩

end Program

/-- Every entry of a whole array cut along the columns is an entry of a block. -/
theorem real_whole {w : FVec Ideal ReferenceIdeal.S768x2048 .bf16} {bw : Fin 4 → FVec Ideal KernelIdeal.S768x512 .bf16} (hw : Columns bw w)
    (h : ∀ c i, Attend.Real' (bw c i)) (i : ReferenceIdeal.S768x2048.Idx) : Attend.Real' (w i) := by
  have hi : (i 1).val < 2048 := (i 1).isLt
  have e := hw ⟨(i 1).val / 512, by omega⟩ (i 0) ⟨(i 1).val % 512, by omega⟩
  have e1 : (ix2 (i 0) ⟨512 * ((i 1).val / 512) + (i 1).val % 512, by omega⟩ : ReferenceIdeal.S768x2048.Idx) = i := by
    refine funext fun a => Fin.ext ?_
    fin_cases a
    · rfl
    · show 512 * ((i 1).val / 512) + (i 1).val % 512 = (i 1).val; omega
  exact e1 ▸ e ▸ h _ _

theorem columns_block (w : FVec Ideal ReferenceIdeal.S768x2048 .bf16) :
    Columns (fun c => Layout.block ⟨2, ![768, 512]⟩ ⟨2, ![768, 2048]⟩ 1 4 c w) w := fun c n e => by
  refine congrArg w (funext fun a => Fin.ext ?_)
  fin_cases a
  · rfl
  · show c.val * 512 + e.val = 512 * c.val + e.val; omega

theorem rows_block (w : FVec Ideal ReferenceIdeal.S2048x768 .bf16) :
    Rows (fun c => Layout.block ⟨2, ![512, 768]⟩ ⟨2, ![2048, 768]⟩ 0 4 c w) w := fun c e o => by
  refine congrArg w (funext fun a => Fin.ext ?_)
  fin_cases a
  · show c.val * 512 + e.val = 512 * c.val + e.val; omega
  · rfl

/-- The claim: from matching arguments, under the precondition, every device's result is the reference's. -/
theorem algebraic [hPre : Cert.Pre_scores_finite_KernelIdeal.Facts] :
    Cert.algebraic_KernelIdeal_ReferenceIdeal_pre_scores_finite_KernelIdeal := by
  intro m ρ m' ρ' hpre hargs
  have hreal := real_args m hpre
  have hq := columns_block (m' (((0 : Dev ReferenceIdeal.nD).tc : Thread ReferenceIdeal.nD ReferenceIdeal.τ).loc ReferenceIdeal.main_arg1))
  have hk := columns_block (m' (((0 : Dev ReferenceIdeal.nD).tc : Thread ReferenceIdeal.nD ReferenceIdeal.τ).loc ReferenceIdeal.main_arg2))
  have hv := columns_block (m' (((0 : Dev ReferenceIdeal.nD).tc : Thread ReferenceIdeal.nD ReferenceIdeal.τ).loc ReferenceIdeal.main_arg3))
  have ho := rows_block (m' (((0 : Dev ReferenceIdeal.nD).tc : Thread ReferenceIdeal.nD ReferenceIdeal.τ).loc ReferenceIdeal.main_arg4))
  have hpt : ∀ c b i o, (outAt (F := Ideal) m c : KernelIdeal.S2x256x768.Idx → EReal) (ix3 b i o) =
      (Cert.ReferenceIdeal.Value.res_main_v39 (F := Ideal) m' 0 : ReferenceIdeal.S2x256x768.Idx → EReal) (ix3 b i o) := fun c b i o => by
    rw [outAt_apply, Whole.res_eq]
    refine Eq.trans (α := EReal) (Finset.sum_congr rfl fun d _ => ?_) (sum_parts (fun i => ?_) (real_whole hq fun d i => ?_) (real_whole hk fun d i => ?_) hq hk hv ho b i o)
    · rw [stgX_eq, stgWq_eq, stgWk_eq, stgWv_eq, stgWo_eq]
      obtain ⟨h0, h1, h2, h3, h4⟩ := hargs d
      rw [h0, h1, h2, h3, h4]
    · have h := (hreal 0).1 i
      rw [(hargs 0).1] at h
      exact h
    · have h := (hreal d).2.1 i
      rw [(hargs d).2.1] at h
      exact h
    · have h := (hreal d).2.2 i
      rw [(hargs d).2.2.1] at h
      exact h
  have hval : ∀ c, outAt (F := Ideal) m c = Cert.ReferenceIdeal.Value.res_main_v39 (F := Ideal) m' 0 := fun c =>
    funext fun j : KernelIdeal.S2x256x768.Idx => by
      rw [eq_ix3 j]; exact hpt c (j 0) (j 1) (j 2)
  refine ⟨Cert.ReferenceIdeal.Value.res_main_v39 (F := Ideal) m' 0, ?_, ?_⟩
  · exact (θ_run KernelIdeal.defs _ _).mono
      (fun r h c => ⟨(h.1 c (5 : Fin 6)).trans ((finalA_5 m ρ c).trans (hval c)), args_unchanged m ρ r h.1 c⟩) (run_main (F := Ideal) m ρ)
  · exact (θ_run ReferenceIdeal.defs _ _).mono (fun _ h => h 0) (Cert.ReferenceIdeal.Value.run (F := Ideal) m' ρ')

end Cert.Exch

end
-- ==== Proof.lean ====
/- The certificate: the facts the programs state, their runs and frames, and the equation between the kernel's result
   and the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

open Idealize.ShloMosaic Idealize.SL.Sem

/-- The shape relations the precondition's text states, at one device's blocks. -/
theorem pre_facts : Cert.Pre_scores_finite_KernelIdeal.Facts where
  bitsLt_bf16_f32 := by decide
  bcast_S_S2x256x768 := by decide
  bcast_S_S768x512 := by decide

/-- And at the reference's whole arrays. -/
theorem pre_facts_reference : Cert.Pre_scores_finite_ReferenceIdeal.Facts where
  bitsLt_bf16_f32 := by decide
  bcast_S_S2x256x768 := by decide
  bcast_S_S768x2048 := by decide

theorem claim : Cert.Claim :=
  ⟨Cert.Kernel.Gen.facts, Cert.KernelIdeal.Gen.facts, Cert.ReferenceIdeal.Gen.facts, pre_facts, pre_facts_reference,
    Exch.frame_kernel, Exch.frame_ideal, fun m g _ => Exch.frame_ideal m g trivial, Exch.frame_reference,
    fun m g _ => Exch.frame_reference m g trivial, trivial, Exch.algebraic (hPre := pre_facts)⟩

end Cert.Proof

end
